-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v755) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4x32x32 : Shape := ⟨4, ![4096, 4, 32, 32]⟩
abbrev S4x32x32 : Shape := ⟨3, ![4, 32, 32]⟩
abbrev S4x1 : Shape := ⟨2, ![4, 1]⟩
abbrev S4096x4096 : Shape := ⟨2, ![4096, 4096]⟩
abbrev S2x1x4096 : Shape := ⟨3, ![2, 1, 4096]⟩
abbrev S512x4096 : Shape := ⟨2, ![512, 4096]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩
abbrev S128x128 : Shape := ⟨2, ![128, 128]⟩
abbrev S1x32x32 : Shape := ⟨3, ![1, 32, 32]⟩
abbrev S32x32 : Shape := ⟨2, ![32, 32]⟩
abbrev S128 : Shape := ⟨1, ![128]⟩
abbrev S128x1 : Shape := ⟨2, ![128, 1]⟩
abbrev S4x32x1 : Shape := ⟨3, ![4, 32, 1]⟩
abbrev S4x1x1 : Shape := ⟨3, ![4, 1, 1]⟩
abbrev S8x8 : Shape := ⟨2, ![8, 8]⟩
abbrev S1x8x1x8x1 : Shape := ⟨5, ![1, 8, 1, 8, 1]⟩
abbrev S4x1x32x1x32 : Shape := ⟨5, ![4, 1, 32, 1, 32]⟩
abbrev S4x8x32x8x32 : Shape := ⟨5, ![4, 8, 32, 8, 32]⟩
abbrev S4x256x256 : Shape := ⟨3, ![4, 256, 256]⟩
abbrev S2x4x256x256 : Shape := ⟨4, ![2, 4, 256, 256]⟩
abbrev S2x4x8x256 : Shape := ⟨4, ![2, 4, 8, 256]⟩
abbrev S32x1x32x32 : Shape := ⟨4, ![32, 1, 32, 32]⟩
abbrev S1x256x256 : Shape := ⟨3, ![1, 256, 256]⟩
abbrev S1x1x256x256 : Shape := ⟨4, ![1, 1, 256, 256]⟩
abbrev S1x1x8x256 : Shape := ⟨4, ![1, 1, 8, 256]⟩
abbrev S256x256 : Shape := ⟨2, ![256, 256]⟩
abbrev S1x1x32x32 : Shape := ⟨4, ![1, 1, 32, 32]⟩
abbrev S256 : Shape := ⟨1, ![256]⟩
abbrev S256x1 : Shape := ⟨2, ![256, 1]⟩
abbrev S8x32x1 : Shape := ⟨3, ![8, 32, 1]⟩
abbrev S8x1 : Shape := ⟨2, ![8, 1]⟩
abbrev S8x1x1 : Shape := ⟨3, ![8, 1, 1]⟩
abbrev S32x8x256 : Shape := ⟨3, ![32, 8, 256]⟩
abbrev S8x256 : Shape := ⟨2, ![8, 256]⟩
abbrev S4 : Shape := ⟨1, ![4]⟩
abbrev S4x8x128 : Shape := ⟨3, ![4, 8, 128]⟩
abbrev S1x8x128 : Shape := ⟨3, ![1, 8, 128]⟩
abbrev S1x1x1 : Shape := ⟨3, ![1, 1, 1]⟩

abbrev nBuf : Space → Nat
  | .hbm => 91
  | .vmem => 34
  | .smem => 0
  | _ => 0

abbrev bufTy : (tb : Table) → Fin (tcTables nBuf tb) → BufTy
  | .hbm, ⟨0, _⟩ => ⟨S4096x4x32x32, .f32⟩
  | .hbm, ⟨1, _⟩ => ⟨S4x32x32, .f32⟩
  | .hbm, ⟨2, _⟩ => ⟨S4x1, .f32⟩
  | .hbm, ⟨3, _⟩ => ⟨S4x32x32, .f32⟩
  | .hbm, ⟨4, _⟩ => ⟨S4x1, .f32⟩
  | .hbm, ⟨5, _⟩ => ⟨S4096x4096, .f32⟩
  | .hbm, ⟨6, _⟩ => ⟨S2x1x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4x32x32, .f32⟩
  | .hbm, ⟨13, _⟩ => ⟨S4x32x32, .f32⟩
  | .hbm, ⟨14, _⟩ => ⟨S4x32x32, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S1x8x1x8x1, .f32⟩
  | .hbm, ⟨23, _⟩ => ⟨S4x1x32x1x32, .f32⟩
  | .hbm, ⟨24, _⟩ => ⟨S4x8x32x8x32, .f32⟩
  | .hbm, ⟨25, _⟩ => ⟨S4x8x32x8x32, .f32⟩
  | .hbm, ⟨26, _⟩ => ⟨S4x8x32x8x32, .f32⟩
  | .hbm, ⟨27, _⟩ => ⟨S4x256x256, .f32⟩
  | .hbm, ⟨28, _⟩ => ⟨S2x4x256x256, .f32⟩
  | .hbm, ⟨29, _⟩ => ⟨S2x4x8x256, .f32⟩
  | .hbm, ⟨30, _⟩ => ⟨S_, .f32⟩
  | .hbm, ⟨31, _⟩ => ⟨S4x256x256, .f32⟩
  | .hbm, ⟨32, _⟩ => ⟨S4x8x32x8x32, .f32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S4x8x32x8x32, .i1⟩
  | .hbm, ⟨37, _⟩ => ⟨S_, .f32⟩
  | .hbm, ⟨38, _⟩ => ⟨S4x8x32x8x32, .f32⟩
  | .hbm, ⟨39, _⟩ => ⟨S4x8x32x8x32, .f32⟩
  | .hbm, ⟨40, _⟩ => ⟨S_, .f32⟩
  | .hbm, ⟨41, _⟩ => ⟨S4x32x32, .f32⟩
  | .hbm, ⟨42, _⟩ => ⟨S_, .f32⟩
  | .hbm, ⟨43, _⟩ => ⟨S4x32x32, .f32⟩
  | .hbm, ⟨44, _⟩ => ⟨S4x32x32, .f32⟩
  | .hbm, ⟨45, _⟩ => ⟨S_, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S4x32x32, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4x32x32, .f32⟩
  | .hbm, ⟨61, _⟩ => ⟨S4x32x32, .f32⟩
  | .hbm, ⟨62, _⟩ => ⟨S8x8, .i32⟩
  | .hbm, ⟨63, _⟩ => ⟨S8x8, .i32⟩
  | .hbm, ⟨64, _⟩ => ⟨S_, .i32⟩
  | .hbm, ⟨65, _⟩ => ⟨S8x8, .i32⟩
  | .hbm, ⟨66, _⟩ => ⟨S8x8, .i32⟩
  | .hbm, ⟨67, _⟩ => ⟨S8x8, .i1⟩
  | .hbm, ⟨68, _⟩ => ⟨S8x8, .f32⟩
  | .hbm, ⟨69, _⟩ => ⟨S1x8x1x8x1, .f32⟩
  | .hbm, ⟨70, _⟩ => ⟨S4x1x32x1x32, .f32⟩
  | .hbm, ⟨71, _⟩ => ⟨S4x8x32x8x32, .f32⟩
  | .hbm, ⟨72, _⟩ => ⟨S4x8x32x8x32, .f32⟩
  | .hbm, ⟨73, _⟩ => ⟨S4x8x32x8x32, .f32⟩
  | .hbm, ⟨74, _⟩ => ⟨S4x256x256, .f32⟩
  | .hbm, ⟨75, _⟩ => ⟨S8x8, .i32⟩
  | .hbm, ⟨76, _⟩ => ⟨S8x8, .i32⟩
  | .hbm, ⟨77, _⟩ => ⟨S_, .i32⟩
  | .hbm, ⟨78, _⟩ => ⟨S8x8, .i32⟩
  | .hbm, ⟨79, _⟩ => ⟨S8x8, .i32⟩
  | .hbm, ⟨80, _⟩ => ⟨S8x8, .i1⟩
  | .hbm, ⟨81, _⟩ => ⟨S8x8, .f32⟩
  | .hbm, ⟨82, _⟩ => ⟨S1x8x1x8x1, .f32⟩
  | .hbm, ⟨83, _⟩ => ⟨S4x1x32x1x32, .f32⟩
  | .hbm, ⟨84, _⟩ => ⟨S4x8x32x8x32, .f32⟩
  | .hbm, ⟨85, _⟩ => ⟨S4x8x32x8x32, .f32⟩
  | .hbm, ⟨86, _⟩ => ⟨S4x8x32x8x32, .f32⟩
  | .hbm, ⟨87, _⟩ => ⟨S4x256x256, .f32⟩
  | .hbm, ⟨88, _⟩ => ⟨S4x1x1, .f32⟩
  | .hbm, ⟨89, _⟩ => ⟨S4x8x128, .f32⟩
  | .hbm, ⟨90, _⟩ => ⟨S4096x4x32x32, .f32⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S4x32x32, .f32⟩
  | .local _ .vmem, ⟨5, _⟩ => ⟨S4x32x32, .f32⟩
  | .local _ .vmem, ⟨6, _⟩ => ⟨S4x32x32, .f32⟩
  | .local _ .vmem, ⟨7, _⟩ => ⟨S128x128, .f32⟩
  | .local _ .vmem, ⟨8, _⟩ => ⟨S32x1x32x32, .f32⟩
  | .local _ .vmem, ⟨9, _⟩ => ⟨S32x1x32x32, .f32⟩
  | .local _ .vmem, ⟨10, _⟩ => ⟨S1x256x256, .f32⟩
  | .local _ .vmem, ⟨11, _⟩ => ⟨S1x256x256, .f32⟩
  | .local _ .vmem, ⟨12, _⟩ => ⟨S1x1x256x256, .f32⟩
  | .local _ .vmem, ⟨13, _⟩ => ⟨S1x1x256x256, .f32⟩
  | .local _ .vmem, ⟨14, _⟩ => ⟨S1x1x8x256, .f32⟩
  | .local _ .vmem, ⟨15, _⟩ => ⟨S1x1x8x256, .f32⟩
  | .local _ .vmem, ⟨16, _⟩ => ⟨S4x256x256, .f32⟩
  | .local _ .vmem, ⟨17, _⟩ => ⟨S4x32x32, .f32⟩
  | .local _ .vmem, ⟨18, _⟩ => ⟨S4x32x32, .f32⟩
  | .local _ .vmem, ⟨19, _⟩ => ⟨S4x32x32, .f32⟩
  | .local _ .vmem, ⟨20, _⟩ => ⟨S4x32x32, .f32⟩
  | .local _ .vmem, ⟨21, _⟩ => ⟨S4x32x32, .f32⟩
  | .local _ .vmem, ⟨22, _⟩ => ⟨S128x128, .f32⟩
  | .local _ .vmem, ⟨23, _⟩ => ⟨S32x1x32x32, .f32⟩
  | .local _ .vmem, ⟨24, _⟩ => ⟨S32x1x32x32, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x8x128, .f32⟩
  | .local _ .vmem, ⟨30, _⟩ => ⟨S1x8x128, .f32⟩
  | .local _ .vmem, ⟨31, _⟩ => ⟨S32x1x32x32, .f32⟩
  | .local _ .vmem, ⟨32, _⟩ => ⟨S32x1x32x32, .f32⟩
  | .local _ .vmem, ⟨33, _⟩ => ⟨S4x256x256, .f32⟩
  | _, _ => ⟨S4096x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_scratch0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S4x32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨3, ![2, 4, 64], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S32x1x32x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1x1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1x8x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 1 → Memref sig .tc .vmem S4x32x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4x32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨3, ![2, 4, 64], ![false, false, false]⟩

def cc4_transform_0 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

abbrev stage4_0 : Fin 2 → Memref sig .tc .vmem S32x1x32x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S1x256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S1x256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S1x8x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true, false]

abbrev stage4_4 : Fin 2 → Memref sig .tc .vmem S32x1x32x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, true]
-- ==== ReferenceIdeal.lean ====
abbrev S4096x4x32x32 : Shape := ⟨4, ![4096, 4, 32, 32]⟩
abbrev S4x32x32 : Shape := ⟨3, ![4, 32, 32]⟩
abbrev S4x1 : Shape := ⟨2, ![4, 1]⟩
abbrev S32x32 : Shape := ⟨2, ![32, 32]⟩
abbrev S_ : Shape := ⟨0, ![]⟩
abbrev S4 : Shape := ⟨1, ![4]⟩
abbrev S4x1x1 : Shape := ⟨3, ![4, 1, 1]⟩
abbrev S1x32x32 : Shape := ⟨3, ![1, 32, 32]⟩
abbrev S4x32x4096x32 : Shape := ⟨4, ![4, 32, 4096, 32]⟩
abbrev S4x4096x32x32 : Shape := ⟨4, ![4, 4096, 32, 32]⟩
abbrev S4096x4 : Shape := ⟨2, ![4096, 4]⟩
abbrev S4096x4x1x1 : Shape := ⟨4, ![4096, 4, 1, 1]⟩
abbrev S1x1x32x32 : Shape := ⟨4, ![1, 1, 32, 32]⟩
abbrev S1x4x1x1 : Shape := ⟨4, ![1, 4, 1, 1]⟩

abbrev nBuf : Space → Nat
  | .hbm => 922
  | .vmem => 0
  | .smem => 0
  | _ => 0

abbrev hbmTy0_0 (i : Nat) : BufTy := match i % 128 with
  | 0 => ⟨S4096x4x32x32, .f32⟩
  | 1 => ⟨S4x32x32, .f32⟩
  | 2 => ⟨S4x1, .f32⟩
  | 3 => ⟨S4x32x32, .f32⟩
  | 4 => ⟨S4x1, .f32⟩
  | 5 => ⟨S32x32, .i32⟩
  | 6 => ⟨S32x32, .i32⟩
  | 7 => ⟨S_, .i32⟩
  | 8 => ⟨S32x32, .i32⟩
  | 9 => ⟨S32x32, .i32⟩
  | 10 => ⟨S32x32, .i1⟩
  | 11 => ⟨S32x32, .f32⟩
  | 12 => ⟨S_, .f32⟩
  | 13 => ⟨S4x32x32, .f32⟩
  | 14 => ⟨S_, .f32⟩
  | 15 => ⟨S4x32x32, .f32⟩
  | 16 => ⟨S4x32x32, .f32⟩
  | 17 => ⟨S4x32x32, .f32⟩
  | 18 => ⟨S_, .f32⟩
  | 19 => ⟨S4, .f32⟩
  | 20 => ⟨S4x1x1, .f32⟩
  | 21 => ⟨S4x1x1, .f32⟩
  | 22 => ⟨S_, .f32⟩
  | 23 => ⟨S4x1x1, .f32⟩
  | 24 => ⟨S4x1x1, .f32⟩
  | 25 => ⟨S4x32x32, .f32⟩
  | 26 => ⟨S4x32x32, .f32⟩
  | 27 => ⟨S_, .f32⟩
  | 28 => ⟨S4x32x32, .f32⟩
  | 29 => ⟨S4x32x32, .f32⟩
  | 30 => ⟨S_, .f32⟩
  | 31 => ⟨S32x32, .f32⟩
  | 32 => ⟨S32x32, .f32⟩
  | 33 => ⟨S1x32x32, .f32⟩
  | 34 => ⟨S4x32x32, .f32⟩
  | 35 => ⟨S4x32x32, .f32⟩
  | 36 => ⟨S4x32x32, .f32⟩
  | 37 => ⟨S4x32x32, .f32⟩
  | 38 => ⟨S4x32x32, .f32⟩
  | 39 => ⟨S_, .f32⟩
  | 40 => ⟨S4x32x32, .f32⟩
  | 41 => ⟨S4x32x32, .f32⟩
  | 42 => ⟨S_, .f32⟩
  | 43 => ⟨S32x32, .f32⟩
  | 44 => ⟨S32x32, .f32⟩
  | 45 => ⟨S1x32x32, .f32⟩
  | 46 => ⟨S4x32x32, .f32⟩
  | 47 => ⟨S4x32x32, .f32⟩
  | 48 => ⟨S4x32x32, .f32⟩
  | 49 => ⟨S4x32x32, .f32⟩
  | 50 => ⟨S4x32x32, .f32⟩
  | 51 => ⟨S4x32x32, .f32⟩
  | 52 => ⟨S_, .f32⟩
  | 53 => ⟨S4x32x32, .f32⟩
  | 54 => ⟨S4x32x32, .f32⟩
  | 55 => ⟨S_, .f32⟩
  | 56 => ⟨S32x32, .f32⟩
  | 57 => ⟨S32x32, .f32⟩
  | 58 => ⟨S1x32x32, .f32⟩
  | 59 => ⟨S4x32x32, .f32⟩
  | 60 => ⟨S4x32x32, .f32⟩
  | 61 => ⟨S4x32x32, .f32⟩
  | 62 => ⟨S4x32x32, .f32⟩
  | 63 => ⟨S4x32x32, .f32⟩
  | 64 => ⟨S4x32x32, .f32⟩
  | 65 => ⟨S_, .f32⟩
  | 66 => ⟨S4x32x32, .f32⟩
  | 67 => ⟨S4x32x32, .f32⟩
  | 68 => ⟨S_, .f32⟩
  | 69 => ⟨S32x32, .f32⟩
  | 70 => ⟨S32x32, .f32⟩
  | 71 => ⟨S1x32x32, .f32⟩
  | 72 => ⟨S4x32x32, .f32⟩
  | 73 => ⟨S4x32x32, .f32⟩
  | 74 => ⟨S4x32x32, .f32⟩
  | 75 => ⟨S4x32x32, .f32⟩
  | 76 => ⟨S4x32x32, .f32⟩
  | 77 => ⟨S4x32x32, .f32⟩
  | 78 => ⟨S_, .f32⟩
  | 79 => ⟨S4x32x32, .f32⟩
  | 80 => ⟨S4x32x32, .f32⟩
  | 81 => ⟨S_, .f32⟩
  | 82 => ⟨S32x32, .f32⟩
  | 83 => ⟨S32x32, .f32⟩
  | 84 => ⟨S1x32x32, .f32⟩
  | 85 => ⟨S4x32x32, .f32⟩
  | 86 => ⟨S4x32x32, .f32⟩
  | 87 => ⟨S4x32x32, .f32⟩
  | 88 => ⟨S4x32x32, .f32⟩
  | 89 => ⟨S4x32x32, .f32⟩
  | 90 => ⟨S4x32x32, .f32⟩
  | 91 => ⟨S1x32x32, .f32⟩
  | 92 => ⟨S4x32x32, .f32⟩
  | 93 => ⟨S4x32x32, .f32⟩
  | 94 => ⟨S_, .f32⟩
  | 95 => ⟨S4x32x32, .f32⟩
  | 96 => ⟨S4x32x32, .f32⟩
  | 97 => ⟨S_, .f32⟩
  | 98 => ⟨S32x32, .f32⟩
  | 99 => ⟨S32x32, .f32⟩
  | 100 => ⟨S1x32x32, .f32⟩
  | 101 => ⟨S4x32x32, .f32⟩
  | 102 => ⟨S4x32x32, .f32⟩
  | 103 => ⟨S4x32x32, .f32⟩
  | 104 => ⟨S_, .f32⟩
  | 105 => ⟨S32x32, .f32⟩
  | 106 => ⟨S32x32, .f32⟩
  | 107 => ⟨S1x32x32, .f32⟩
  | 108 => ⟨S4x32x32, .f32⟩
  | 109 => ⟨S4x32x32, .f32⟩
  | 110 => ⟨S4x32x32, .f32⟩
  | 111 => ⟨S_, .f32⟩
  | 112 => ⟨S32x32, .f32⟩
  | 113 => ⟨S32x32, .f32⟩
  | 114 => ⟨S1x32x32, .f32⟩
  | 115 => ⟨S4x32x32, .f32⟩
  | 116 => ⟨S4x32x32, .f32⟩
  | 117 => ⟨S4x32x32, .f32⟩
  | 118 => ⟨S4x1x1, .f32⟩
  | 119 => ⟨S4x32x32, .f32⟩
  | 120 => ⟨S4x32x32, .f32⟩
  | 121 => ⟨S4x32x32, .f32⟩
  | 122 => ⟨S4x1x1, .f32⟩
  | 123 => ⟨S_, .f32⟩
  | 124 => ⟨S4x1x1, .f32⟩
  | 125 => ⟨S4x1x1, .f32⟩
  | 126 => ⟨S4x32x32, .f32⟩
  | 127 => ⟨S4x32x32, .f32⟩
  | _ => ⟨S4096x4x32x32, .f32⟩

abbrev hbmTy0_1 (i : Nat) : BufTy := match i % 128 with
  | 0 => ⟨S4x32x4096x32, .f32⟩
  | 1 => ⟨S4096x4x32x32, .f32⟩
  | 2 => ⟨S4x4096x32x32, .f32⟩
  | 3 => ⟨S4096x4x32x32, .f32⟩
  | 4 => ⟨S4096x4x32x32, .f32⟩
  | 5 => ⟨S_, .f32⟩
  | 6 => ⟨S4096x4, .f32⟩
  | 7 => ⟨S4096x4x1x1, .f32⟩
  | 8 => ⟨S4096x4x1x1, .f32⟩
  | 9 => ⟨S_, .f32⟩
  | 10 => ⟨S4096x4x1x1, .f32⟩
  | 11 => ⟨S4096x4x1x1, .f32⟩
  | 12 => ⟨S4096x4x32x32, .f32⟩
  | 13 => ⟨S4096x4x32x32, .f32⟩
  | 14 => ⟨S_, .f32⟩
  | 15 => ⟨S4096x4x32x32, .f32⟩
  | 16 => ⟨S4096x4x32x32, .f32⟩
  | 17 => ⟨S_, .f32⟩
  | 18 => ⟨S32x32, .f32⟩
  | 19 => ⟨S32x32, .f32⟩
  | 20 => ⟨S1x1x32x32, .f32⟩
  | 21 => ⟨S4096x4x32x32, .f32⟩
  | 22 => ⟨S4096x4x32x32, .f32⟩
  | 23 => ⟨S4096x4x32x32, .f32⟩
  | 24 => ⟨S4096x4x32x32, .f32⟩
  | 25 => ⟨S4096x4x32x32, .f32⟩
  | 26 => ⟨S_, .f32⟩
  | 27 => ⟨S4096x4x32x32, .f32⟩
  | 28 => ⟨S4096x4x32x32, .f32⟩
  | 29 => ⟨S_, .f32⟩
  | 30 => ⟨S32x32, .f32⟩
  | 31 => ⟨S32x32, .f32⟩
  | 32 => ⟨S1x1x32x32, .f32⟩
  | 33 => ⟨S4096x4x32x32, .f32⟩
  | 34 => ⟨S4096x4x32x32, .f32⟩
  | 35 => ⟨S4096x4x32x32, .f32⟩
  | 36 => ⟨S4096x4x32x32, .f32⟩
  | 37 => ⟨S4096x4x32x32, .f32⟩
  | 38 => ⟨S_, .f32⟩
  | 39 => ⟨S4096x4x32x32, .f32⟩
  | 40 => ⟨S4096x4x32x32, .f32⟩
  | 41 => ⟨S_, .f32⟩
  | 42 => ⟨S32x32, .f32⟩
  | 43 => ⟨S32x32, .f32⟩
  | 44 => ⟨S1x1x32x32, .f32⟩
  | 45 => ⟨S4096x4x32x32, .f32⟩
  | 46 => ⟨S4096x4x32x32, .f32⟩
  | 47 => ⟨S4096x4x32x32, .f32⟩
  | 48 => ⟨S4096x4x32x32, .f32⟩
  | 49 => ⟨S4096x4x32x32, .f32⟩
  | 50 => ⟨S_, .f32⟩
  | 51 => ⟨S4096x4x32x32, .f32⟩
  | 52 => ⟨S4096x4x32x32, .f32⟩
  | 53 => ⟨S_, .f32⟩
  | 54 => ⟨S32x32, .f32⟩
  | 55 => ⟨S32x32, .f32⟩
  | 56 => ⟨S1x1x32x32, .f32⟩
  | 57 => ⟨S4096x4x32x32, .f32⟩
  | 58 => ⟨S4096x4x32x32, .f32⟩
  | 59 => ⟨S4096x4x32x32, .f32⟩
  | 60 => ⟨S4096x4x32x32, .f32⟩
  | 61 => ⟨S4096x4x32x32, .f32⟩
  | 62 => ⟨S1x1x32x32, .f32⟩
  | 63 => ⟨S4096x4x32x32, .f32⟩
  | 64 => ⟨S4096x4x32x32, .f32⟩
  | 65 => ⟨S_, .f32⟩
  | 66 => ⟨S4096x4x32x32, .f32⟩
  | 67 => ⟨S4096x4x32x32, .f32⟩
  | 68 => ⟨S_, .f32⟩
  | 69 => ⟨S32x32, .f32⟩
  | 70 => ⟨S32x32, .f32⟩
  | 71 => ⟨S1x1x32x32, .f32⟩
  | 72 => ⟨S4096x4x32x32, .f32⟩
  | 73 => ⟨S4096x4x32x32, .f32⟩
  | 74 => ⟨S4096x4x32x32, .f32⟩
  | 75 => ⟨S_, .f32⟩
  | 76 => ⟨S32x32, .f32⟩
  | 77 => ⟨S32x32, .f32⟩
  | 78 => ⟨S1x1x32x32, .f32⟩
  | 79 => ⟨S4096x4x32x32, .f32⟩
  | 80 => ⟨S4096x4x32x32, .f32⟩
  | 81 => ⟨S4096x4x32x32, .f32⟩
  | 82 => ⟨S_, .f32⟩
  | 83 => ⟨S32x32, .f32⟩
  | 84 => ⟨S32x32, .f32⟩
  | 85 => ⟨S1x1x32x32, .f32⟩
  | 86 => ⟨S4096x4x32x32, .f32⟩
  | 87 => ⟨S4096x4x32x32, .f32⟩
  | 88 => ⟨S4096x4x32x32, .f32⟩
  | 89 => ⟨S_, .f32⟩
  | 90 => ⟨S4096x4x32x32, .f32⟩
  | 91 => ⟨S4096x4x32x32, .f32⟩
  | 92 => ⟨S_, .f32⟩
  | 93 => ⟨S32x32, .f32⟩
  | 94 => ⟨S32x32, .f32⟩
  | 95 => ⟨S1x1x32x32, .f32⟩
  | 96 => ⟨S4096x4x32x32, .f32⟩
  | 97 => ⟨S4096x4x32x32, .f32⟩
  | 98 => ⟨S4096x4x32x32, .f32⟩
  | 99 => ⟨S4096x4x32x32, .f32⟩
  | 100 => ⟨S4096x4x32x32, .f32⟩
  | 101 => ⟨S_, .f32⟩
  | 102 => ⟨S4096x4x32x32, .f32⟩
  | 103 => ⟨S4096x4x32x32, .f32⟩
  | 104 => ⟨S_, .f32⟩
  | 105 => ⟨S32x32, .f32⟩
  | 106 => ⟨S32x32, .f32⟩
  | 107 => ⟨S1x1x32x32, .f32⟩
  | 108 => ⟨S4096x4x32x32, .f32⟩
  | 109 => ⟨S4096x4x32x32, .f32⟩
  | 110 => ⟨S4096x4x32x32, .f32⟩
  | 111 => ⟨S4096x4x32x32, .f32⟩
  | 112 => ⟨S4096x4x32x32, .f32⟩
  | 113 => ⟨S1x1x32x32, .f32⟩
  | 114 => ⟨S4096x4x32x32, .f32⟩
  | 115 => ⟨S4096x4x32x32, .f32⟩
  | 116 => ⟨S_, .f32⟩
  | 117 => ⟨S4096x4x32x32, .f32⟩
  | 118 => ⟨S4096x4x32x32, .f32⟩
  | 119 => ⟨S_, .f32⟩
  | 120 => ⟨S32x32, .f32⟩
  | 121 => ⟨S32x32, .f32⟩
  | 122 => ⟨S1x1x32x32, .f32⟩
  | 123 => ⟨S4096x4x32x32, .f32⟩
  | 124 => ⟨S4096x4x32x32, .f32⟩
  | 125 => ⟨S4096x4x32x32, .f32⟩
  | 126 => ⟨S_, .f32⟩
  | 127 => ⟨S32x32, .f32⟩
  | _ => ⟨S4096x4x32x32, .f32⟩

abbrev hbmTy0_2 (i : Nat) : BufTy := match i % 128 with
  | 0 => ⟨S32x32, .f32⟩
  | 1 => ⟨S1x1x32x32, .f32⟩
  | 2 => ⟨S4096x4x32x32, .f32⟩
  | 3 => ⟨S4096x4x32x32, .f32⟩
  | 4 => ⟨S4096x4x32x32, .f32⟩
  | 5 => ⟨S_, .f32⟩
  | 6 => ⟨S32x32, .f32⟩
  | 7 => ⟨S32x32, .f32⟩
  | 8 => ⟨S1x1x32x32, .f32⟩
  | 9 => ⟨S4096x4x32x32, .f32⟩
  | 10 => ⟨S4096x4x32x32, .f32⟩
  | 11 => ⟨S4096x4x32x32, .f32⟩
  | 12 => ⟨S_, .f32⟩
  | 13 => ⟨S4096x4x32x32, .f32⟩
  | 14 => ⟨S4096x4x32x32, .f32⟩
  | 15 => ⟨S1x1x32x32, .f32⟩
  | 16 => ⟨S4096x4x32x32, .f32⟩
  | 17 => ⟨S4096x4x32x32, .f32⟩
  | 18 => ⟨S4096x4x32x32, .f32⟩
  | 19 => ⟨S4096x4x32x32, .f32⟩
  | 20 => ⟨S4096x4x32x32, .f32⟩
  | 21 => ⟨S_, .f32⟩
  | 22 => ⟨S32x32, .f32⟩
  | 23 => ⟨S32x32, .f32⟩
  | 24 => ⟨S_, .f32⟩
  | 25 => ⟨S4096x4x32x32, .f32⟩
  | 26 => ⟨S4096x4x32x32, .f32⟩
  | 27 => ⟨S1x1x32x32, .f32⟩
  | 28 => ⟨S4096x4x32x32, .f32⟩
  | 29 => ⟨S4096x4x32x32, .f32⟩
  | 30 => ⟨S_, .f32⟩
  | 31 => ⟨S4096x4x32x32, .f32⟩
  | 32 => ⟨S4096x4x32x32, .f32⟩
  | 33 => ⟨S4096x4x32x32, .f32⟩
  | 34 => ⟨S_, .f32⟩
  | 35 => ⟨S4096x4x32x32, .f32⟩
  | 36 => ⟨S4096x4x32x32, .f32⟩
  | 37 => ⟨S4096x4x32x32, .f32⟩
  | 38 => ⟨S_, .f32⟩
  | 39 => ⟨S4096x4x32x32, .f32⟩
  | 40 => ⟨S4096x4x32x32, .f32⟩
  | 41 => ⟨S4096x4x32x32, .f32⟩
  | 42 => ⟨S4096x4x32x32, .f32⟩
  | 43 => ⟨S_, .f32⟩
  | 44 => ⟨S32x32, .f32⟩
  | 45 => ⟨S32x32, .f32⟩
  | 46 => ⟨S_, .f32⟩
  | 47 => ⟨S4096x4x32x32, .f32⟩
  | 48 => ⟨S4096x4x32x32, .f32⟩
  | 49 => ⟨S1x1x32x32, .f32⟩
  | 50 => ⟨S4096x4x32x32, .f32⟩
  | 51 => ⟨S4096x4x32x32, .f32⟩
  | 52 => ⟨S_, .f32⟩
  | 53 => ⟨S4096x4x32x32, .f32⟩
  | 54 => ⟨S4096x4x32x32, .f32⟩
  | 55 => ⟨S4096x4x32x32, .f32⟩
  | 56 => ⟨S_, .f32⟩
  | 57 => ⟨S4096x4x32x32, .f32⟩
  | 58 => ⟨S4096x4x32x32, .f32⟩
  | 59 => ⟨S4096x4x32x32, .f32⟩
  | 60 => ⟨S4096x4x32x32, .f32⟩
  | 61 => ⟨S4096x4x32x32, .f32⟩
  | 62 => ⟨S_, .f32⟩
  | 63 => ⟨S32x32, .f32⟩
  | 64 => ⟨S32x32, .f32⟩
  | 65 => ⟨S_, .f32⟩
  | 66 => ⟨S4096x4x32x32, .f32⟩
  | 67 => ⟨S4096x4x32x32, .f32⟩
  | 68 => ⟨S1x1x32x32, .f32⟩
  | 69 => ⟨S4096x4x32x32, .f32⟩
  | 70 => ⟨S4096x4x32x32, .f32⟩
  | 71 => ⟨S_, .f32⟩
  | 72 => ⟨S4096x4x32x32, .f32⟩
  | 73 => ⟨S4096x4x32x32, .f32⟩
  | 74 => ⟨S4096x4x32x32, .f32⟩
  | 75 => ⟨S_, .f32⟩
  | 76 => ⟨S4096x4x32x32, .f32⟩
  | 77 => ⟨S4096x4x32x32, .f32⟩
  | 78 => ⟨S4096x4x32x32, .f32⟩
  | 79 => ⟨S4096x4x32x32, .f32⟩
  | 80 => ⟨S_, .f32⟩
  | 81 => ⟨S_, .f32⟩
  | 82 => ⟨S_, .f32⟩
  | 83 => ⟨S32x32, .f32⟩
  | 84 => ⟨S32x32, .f32⟩
  | 85 => ⟨S1x1x32x32, .f32⟩
  | 86 => ⟨S4096x4x32x32, .f32⟩
  | 87 => ⟨S4096x4x32x32, .f32⟩
  | 88 => ⟨S_, .f32⟩
  | 89 => ⟨S4096x4x32x32, .f32⟩
  | 90 => ⟨S4096x4x32x32, .f32⟩
  | 91 => ⟨S4096x4x1x1, .f32⟩
  | 92 => ⟨S1x1x32x32, .f32⟩
  | 93 => ⟨S4096x4x32x32, .f32⟩
  | 94 => ⟨S4096x4x32x32, .f32⟩
  | 95 => ⟨S4096x4x32x32, .f32⟩
  | 96 => ⟨S4096x4x32x32, .f32⟩
  | 97 => ⟨S_, .f32⟩
  | 98 => ⟨S4x32x32, .f32⟩
  | 99 => ⟨S_, .f32⟩
  | 100 => ⟨S4x32x32, .f32⟩
  | 101 => ⟨S4x32x32, .f32⟩
  | 102 => ⟨S_, .f32⟩
  | 103 => ⟨S4x32x32, .f32⟩
  | 104 => ⟨S4x32x32, .f32⟩
  | 105 => ⟨S4x32x32, .f32⟩
  | 106 => ⟨S4x32x32, .f32⟩
  | 107 => ⟨S_, .f32⟩
  | 108 => ⟨S4x32x32, .f32⟩
  | 109 => ⟨S4x32x32, .f32⟩
  | 110 => ⟨S_, .f32⟩
  | 111 => ⟨S4x32x32, .f32⟩
  | 112 => ⟨S4x32x32, .f32⟩
  | 113 => ⟨S4x32x32, .f32⟩
  | 114 => ⟨S_, .f32⟩
  | 115 => ⟨S4x32x32, .f32⟩
  | 116 => ⟨S4x32x32, .f32⟩
  | 117 => ⟨S4x32x32, .f32⟩
  | 118 => ⟨S4x32x32, .f32⟩
  | 119 => ⟨S1x32x32, .f32⟩
  | 120 => ⟨S4x32x32, .f32⟩
  | 121 => ⟨S4x32x32, .f32⟩
  | 122 => ⟨S_, .f32⟩
  | 123 => ⟨S4x32x32, .f32⟩
  | 124 => ⟨S4x32x32, .f32⟩
  | 125 => ⟨S4x32x32, .f32⟩
  | 126 => ⟨S_, .f32⟩
  | 127 => ⟨S4x32x32, .f32⟩
  | _ => ⟨S4096x4x32x32, .f32⟩

abbrev hbmTy0_3 (i : Nat) : BufTy := match i % 128 with
  | 0 => ⟨S4x32x32, .f32⟩
  | 1 => ⟨S4x32x32, .f32⟩
  | 2 => ⟨S4x32x32, .f32⟩
  | 3 => ⟨S4x32x32, .f32⟩
  | 4 => ⟨S4x32x32, .f32⟩
  | 5 => ⟨S4x32x32, .f32⟩
  | 6 => ⟨S4x32x32, .f32⟩
  | 7 => ⟨S4x32x32, .f32⟩
  | 8 => ⟨S4x32x32, .f32⟩
  | 9 => ⟨S4096x4x32x32, .f32⟩
  | 10 => ⟨S_, .f32⟩
  | 11 => ⟨S4096x4, .f32⟩
  | 12 => ⟨S_, .f32⟩
  | 13 => ⟨S4, .f32⟩
  | 14 => ⟨S_, .f32⟩
  | 15 => ⟨S4, .f32⟩
  | 16 => ⟨S4, .f32⟩
  | 17 => ⟨S4x32x32, .f32⟩
  | 18 => ⟨S_, .f32⟩
  | 19 => ⟨S4, .f32⟩
  | 20 => ⟨S4, .f32⟩
  | 21 => ⟨S4, .f32⟩
  | 22 => ⟨S_, .f32⟩
  | 23 => ⟨S4, .f32⟩
  | 24 => ⟨S4, .f32⟩
  | 25 => ⟨S4, .f32⟩
  | 26 => ⟨S4, .f32⟩
  | 27 => ⟨S4x1x1, .f32⟩
  | 28 => ⟨S4x32x32, .f32⟩
  | 29 => ⟨S_, .f32⟩
  | 30 => ⟨S4, .f32⟩
  | 31 => ⟨S4x1x1, .f32⟩
  | 32 => ⟨S4x1x1, .f32⟩
  | 33 => ⟨S_, .f32⟩
  | 34 => ⟨S4x1x1, .f32⟩
  | 35 => ⟨S4x1x1, .f32⟩
  | 36 => ⟨S4x32x32, .f32⟩
  | 37 => ⟨S4x32x32, .f32⟩
  | 38 => ⟨S_, .f32⟩
  | 39 => ⟨S4x32x32, .f32⟩
  | 40 => ⟨S4x32x32, .f32⟩
  | 41 => ⟨S_, .f32⟩
  | 42 => ⟨S32x32, .f32⟩
  | 43 => ⟨S32x32, .f32⟩
  | 44 => ⟨S1x32x32, .f32⟩
  | 45 => ⟨S4x32x32, .f32⟩
  | 46 => ⟨S4x32x32, .f32⟩
  | 47 => ⟨S4x32x32, .f32⟩
  | 48 => ⟨S4x32x32, .f32⟩
  | 49 => ⟨S4x32x32, .f32⟩
  | 50 => ⟨S_, .f32⟩
  | 51 => ⟨S4x32x32, .f32⟩
  | 52 => ⟨S4x32x32, .f32⟩
  | 53 => ⟨S_, .f32⟩
  | 54 => ⟨S32x32, .f32⟩
  | 55 => ⟨S32x32, .f32⟩
  | 56 => ⟨S1x32x32, .f32⟩
  | 57 => ⟨S4x32x32, .f32⟩
  | 58 => ⟨S4x32x32, .f32⟩
  | 59 => ⟨S4x32x32, .f32⟩
  | 60 => ⟨S4x32x32, .f32⟩
  | 61 => ⟨S4x32x32, .f32⟩
  | 62 => ⟨S4x32x32, .f32⟩
  | 63 => ⟨S_, .f32⟩
  | 64 => ⟨S4x32x32, .f32⟩
  | 65 => ⟨S4x32x32, .f32⟩
  | 66 => ⟨S_, .f32⟩
  | 67 => ⟨S32x32, .f32⟩
  | 68 => ⟨S32x32, .f32⟩
  | 69 => ⟨S1x32x32, .f32⟩
  | 70 => ⟨S4x32x32, .f32⟩
  | 71 => ⟨S4x32x32, .f32⟩
  | 72 => ⟨S4x32x32, .f32⟩
  | 73 => ⟨S4x32x32, .f32⟩
  | 74 => ⟨S4x32x32, .f32⟩
  | 75 => ⟨S4x32x32, .f32⟩
  | 76 => ⟨S_, .f32⟩
  | 77 => ⟨S4x32x32, .f32⟩
  | 78 => ⟨S4x32x32, .f32⟩
  | 79 => ⟨S_, .f32⟩
  | 80 => ⟨S32x32, .f32⟩
  | 81 => ⟨S32x32, .f32⟩
  | 82 => ⟨S1x32x32, .f32⟩
  | 83 => ⟨S4x32x32, .f32⟩
  | 84 => ⟨S4x32x32, .f32⟩
  | 85 => ⟨S4x32x32, .f32⟩
  | 86 => ⟨S4x32x32, .f32⟩
  | 87 => ⟨S4x32x32, .f32⟩
  | 88 => ⟨S4x32x32, .f32⟩
  | 89 => ⟨S_, .f32⟩
  | 90 => ⟨S4x32x32, .f32⟩
  | 91 => ⟨S4x32x32, .f32⟩
  | 92 => ⟨S_, .f32⟩
  | 93 => ⟨S32x32, .f32⟩
  | 94 => ⟨S32x32, .f32⟩
  | 95 => ⟨S1x32x32, .f32⟩
  | 96 => ⟨S4x32x32, .f32⟩
  | 97 => ⟨S4x32x32, .f32⟩
  | 98 => ⟨S4x32x32, .f32⟩
  | 99 => ⟨S4x32x32, .f32⟩
  | 100 => ⟨S4x32x32, .f32⟩
  | 101 => ⟨S4x32x32, .f32⟩
  | 102 => ⟨S1x32x32, .f32⟩
  | 103 => ⟨S4x32x32, .f32⟩
  | 104 => ⟨S4x32x32, .f32⟩
  | 105 => ⟨S_, .f32⟩
  | 106 => ⟨S4x32x32, .f32⟩
  | 107 => ⟨S4x32x32, .f32⟩
  | 108 => ⟨S_, .f32⟩
  | 109 => ⟨S32x32, .f32⟩
  | 110 => ⟨S32x32, .f32⟩
  | 111 => ⟨S1x32x32, .f32⟩
  | 112 => ⟨S4x32x32, .f32⟩
  | 113 => ⟨S4x32x32, .f32⟩
  | 114 => ⟨S4x32x32, .f32⟩
  | 115 => ⟨S_, .f32⟩
  | 116 => ⟨S32x32, .f32⟩
  | 117 => ⟨S32x32, .f32⟩
  | 118 => ⟨S1x32x32, .f32⟩
  | 119 => ⟨S4x32x32, .f32⟩
  | 120 => ⟨S4x32x32, .f32⟩
  | 121 => ⟨S4x32x32, .f32⟩
  | 122 => ⟨S_, .f32⟩
  | 123 => ⟨S32x32, .f32⟩
  | 124 => ⟨S32x32, .f32⟩
  | 125 => ⟨S1x32x32, .f32⟩
  | 126 => ⟨S4x32x32, .f32⟩
  | 127 => ⟨S4x32x32, .f32⟩
  | _ => ⟨S4096x4x32x32, .f32⟩

abbrev hbmTy0_4 (i : Nat) : BufTy := match i % 128 with
  | 0 => ⟨S4x32x32, .f32⟩
  | 1 => ⟨S4x1x1, .f32⟩
  | 2 => ⟨S4x32x32, .f32⟩
  | 3 => ⟨S4x32x32, .f32⟩
  | 4 => ⟨S4x32x32, .f32⟩
  | 5 => ⟨S4x1x1, .f32⟩
  | 6 => ⟨S_, .f32⟩
  | 7 => ⟨S4x1x1, .f32⟩
  | 8 => ⟨S4x1x1, .f32⟩
  | 9 => ⟨S4x32x32, .f32⟩
  | 10 => ⟨S4x32x32, .f32⟩
  | 11 => ⟨S4x32x32, .f32⟩
  | 12 => ⟨S_, .f32⟩
  | 13 => ⟨S4, .f32⟩
  | 14 => ⟨S4x1x1, .f32⟩
  | 15 => ⟨S4x1x1, .f32⟩
  | 16 => ⟨S_, .f32⟩
  | 17 => ⟨S4x1x1, .f32⟩
  | 18 => ⟨S4x1x1, .f32⟩
  | 19 => ⟨S4x32x32, .f32⟩
  | 20 => ⟨S4x32x32, .f32⟩
  | 21 => ⟨S_, .f32⟩
  | 22 => ⟨S4x32x32, .f32⟩
  | 23 => ⟨S4x32x32, .f32⟩
  | 24 => ⟨S_, .f32⟩
  | 25 => ⟨S32x32, .f32⟩
  | 26 => ⟨S32x32, .f32⟩
  | 27 => ⟨S1x32x32, .f32⟩
  | 28 => ⟨S4x32x32, .f32⟩
  | 29 => ⟨S4x32x32, .f32⟩
  | 30 => ⟨S4x32x32, .f32⟩
  | 31 => ⟨S4x32x32, .f32⟩
  | 32 => ⟨S4x32x32, .f32⟩
  | 33 => ⟨S_, .f32⟩
  | 34 => ⟨S4x32x32, .f32⟩
  | 35 => ⟨S4x32x32, .f32⟩
  | 36 => ⟨S_, .f32⟩
  | 37 => ⟨S32x32, .f32⟩
  | 38 => ⟨S32x32, .f32⟩
  | 39 => ⟨S1x32x32, .f32⟩
  | 40 => ⟨S4x32x32, .f32⟩
  | 41 => ⟨S4x32x32, .f32⟩
  | 42 => ⟨S4x32x32, .f32⟩
  | 43 => ⟨S4x32x32, .f32⟩
  | 44 => ⟨S4x32x32, .f32⟩
  | 45 => ⟨S4x32x32, .f32⟩
  | 46 => ⟨S_, .f32⟩
  | 47 => ⟨S4x32x32, .f32⟩
  | 48 => ⟨S4x32x32, .f32⟩
  | 49 => ⟨S_, .f32⟩
  | 50 => ⟨S32x32, .f32⟩
  | 51 => ⟨S32x32, .f32⟩
  | 52 => ⟨S1x32x32, .f32⟩
  | 53 => ⟨S4x32x32, .f32⟩
  | 54 => ⟨S4x32x32, .f32⟩
  | 55 => ⟨S4x32x32, .f32⟩
  | 56 => ⟨S4x32x32, .f32⟩
  | 57 => ⟨S4x32x32, .f32⟩
  | 58 => ⟨S4x32x32, .f32⟩
  | 59 => ⟨S_, .f32⟩
  | 60 => ⟨S4x32x32, .f32⟩
  | 61 => ⟨S4x32x32, .f32⟩
  | 62 => ⟨S_, .f32⟩
  | 63 => ⟨S32x32, .f32⟩
  | 64 => ⟨S32x32, .f32⟩
  | 65 => ⟨S1x32x32, .f32⟩
  | 66 => ⟨S4x32x32, .f32⟩
  | 67 => ⟨S4x32x32, .f32⟩
  | 68 => ⟨S4x32x32, .f32⟩
  | 69 => ⟨S4x32x32, .f32⟩
  | 70 => ⟨S4x32x32, .f32⟩
  | 71 => ⟨S4x32x32, .f32⟩
  | 72 => ⟨S_, .f32⟩
  | 73 => ⟨S4x32x32, .f32⟩
  | 74 => ⟨S4x32x32, .f32⟩
  | 75 => ⟨S_, .f32⟩
  | 76 => ⟨S32x32, .f32⟩
  | 77 => ⟨S32x32, .f32⟩
  | 78 => ⟨S1x32x32, .f32⟩
  | 79 => ⟨S4x32x32, .f32⟩
  | 80 => ⟨S4x32x32, .f32⟩
  | 81 => ⟨S4x32x32, .f32⟩
  | 82 => ⟨S4x32x32, .f32⟩
  | 83 => ⟨S4x32x32, .f32⟩
  | 84 => ⟨S4x32x32, .f32⟩
  | 85 => ⟨S1x32x32, .f32⟩
  | 86 => ⟨S4x32x32, .f32⟩
  | 87 => ⟨S4x32x32, .f32⟩
  | 88 => ⟨S_, .f32⟩
  | 89 => ⟨S4x32x32, .f32⟩
  | 90 => ⟨S4x32x32, .f32⟩
  | 91 => ⟨S_, .f32⟩
  | 92 => ⟨S32x32, .f32⟩
  | 93 => ⟨S32x32, .f32⟩
  | 94 => ⟨S1x32x32, .f32⟩
  | 95 => ⟨S4x32x32, .f32⟩
  | 96 => ⟨S4x32x32, .f32⟩
  | 97 => ⟨S4x32x32, .f32⟩
  | 98 => ⟨S_, .f32⟩
  | 99 => ⟨S32x32, .f32⟩
  | 100 => ⟨S32x32, .f32⟩
  | 101 => ⟨S1x32x32, .f32⟩
  | 102 => ⟨S4x32x32, .f32⟩
  | 103 => ⟨S4x32x32, .f32⟩
  | 104 => ⟨S4x32x32, .f32⟩
  | 105 => ⟨S_, .f32⟩
  | 106 => ⟨S32x32, .f32⟩
  | 107 => ⟨S32x32, .f32⟩
  | 108 => ⟨S1x32x32, .f32⟩
  | 109 => ⟨S4x32x32, .f32⟩
  | 110 => ⟨S4x32x32, .f32⟩
  | 111 => ⟨S4x32x32, .f32⟩
  | 112 => ⟨S4x1x1, .f32⟩
  | 113 => ⟨S4x32x32, .f32⟩
  | 114 => ⟨S4x32x32, .f32⟩
  | 115 => ⟨S4x32x32, .f32⟩
  | 116 => ⟨S4x1x1, .f32⟩
  | 117 => ⟨S_, .f32⟩
  | 118 => ⟨S4x1x1, .f32⟩
  | 119 => ⟨S4x1x1, .f32⟩
  | 120 => ⟨S4x32x32, .f32⟩
  | 121 => ⟨S4x32x32, .f32⟩
  | 122 => ⟨S4x32x4096x32, .f32⟩
  | 123 => ⟨S4096x4x32x32, .f32⟩
  | 124 => ⟨S4x4096x32x32, .f32⟩
  | 125 => ⟨S4096x4x32x32, .f32⟩
  | 126 => ⟨S4096x4x32x32, .f32⟩
  | 127 => ⟨S_, .f32⟩
  | _ => ⟨S4096x4x32x32, .f32⟩

abbrev hbmTy0_5 (i : Nat) : BufTy := match i % 128 with
  | 0 => ⟨S4096x4, .f32⟩
  | 1 => ⟨S4096x4x1x1, .f32⟩
  | 2 => ⟨S4096x4x1x1, .f32⟩
  | 3 => ⟨S_, .f32⟩
  | 4 => ⟨S4096x4x1x1, .f32⟩
  | 5 => ⟨S4096x4x1x1, .f32⟩
  | 6 => ⟨S4096x4x32x32, .f32⟩
  | 7 => ⟨S4096x4x32x32, .f32⟩
  | 8 => ⟨S_, .f32⟩
  | 9 => ⟨S4096x4x32x32, .f32⟩
  | 10 => ⟨S4096x4x32x32, .f32⟩
  | 11 => ⟨S_, .f32⟩
  | 12 => ⟨S32x32, .f32⟩
  | 13 => ⟨S32x32, .f32⟩
  | 14 => ⟨S1x1x32x32, .f32⟩
  | 15 => ⟨S4096x4x32x32, .f32⟩
  | 16 => ⟨S4096x4x32x32, .f32⟩
  | 17 => ⟨S4096x4x32x32, .f32⟩
  | 18 => ⟨S4096x4x32x32, .f32⟩
  | 19 => ⟨S4096x4x32x32, .f32⟩
  | 20 => ⟨S_, .f32⟩
  | 21 => ⟨S4096x4x32x32, .f32⟩
  | 22 => ⟨S4096x4x32x32, .f32⟩
  | 23 => ⟨S_, .f32⟩
  | 24 => ⟨S32x32, .f32⟩
  | 25 => ⟨S32x32, .f32⟩
  | 26 => ⟨S1x1x32x32, .f32⟩
  | 27 => ⟨S4096x4x32x32, .f32⟩
  | 28 => ⟨S4096x4x32x32, .f32⟩
  | 29 => ⟨S4096x4x32x32, .f32⟩
  | 30 => ⟨S4096x4x32x32, .f32⟩
  | 31 => ⟨S4096x4x32x32, .f32⟩
  | 32 => ⟨S_, .f32⟩
  | 33 => ⟨S4096x4x32x32, .f32⟩
  | 34 => ⟨S4096x4x32x32, .f32⟩
  | 35 => ⟨S_, .f32⟩
  | 36 => ⟨S32x32, .f32⟩
  | 37 => ⟨S32x32, .f32⟩
  | 38 => ⟨S1x1x32x32, .f32⟩
  | 39 => ⟨S4096x4x32x32, .f32⟩
  | 40 => ⟨S4096x4x32x32, .f32⟩
  | 41 => ⟨S4096x4x32x32, .f32⟩
  | 42 => ⟨S4096x4x32x32, .f32⟩
  | 43 => ⟨S4096x4x32x32, .f32⟩
  | 44 => ⟨S_, .f32⟩
  | 45 => ⟨S4096x4x32x32, .f32⟩
  | 46 => ⟨S4096x4x32x32, .f32⟩
  | 47 => ⟨S_, .f32⟩
  | 48 => ⟨S32x32, .f32⟩
  | 49 => ⟨S32x32, .f32⟩
  | 50 => ⟨S1x1x32x32, .f32⟩
  | 51 => ⟨S4096x4x32x32, .f32⟩
  | 52 => ⟨S4096x4x32x32, .f32⟩
  | 53 => ⟨S4096x4x32x32, .f32⟩
  | 54 => ⟨S4096x4x32x32, .f32⟩
  | 55 => ⟨S4096x4x32x32, .f32⟩
  | 56 => ⟨S1x1x32x32, .f32⟩
  | 57 => ⟨S4096x4x32x32, .f32⟩
  | 58 => ⟨S4096x4x32x32, .f32⟩
  | 59 => ⟨S_, .f32⟩
  | 60 => ⟨S4096x4x32x32, .f32⟩
  | 61 => ⟨S4096x4x32x32, .f32⟩
  | 62 => ⟨S_, .f32⟩
  | 63 => ⟨S32x32, .f32⟩
  | 64 => ⟨S32x32, .f32⟩
  | 65 => ⟨S1x1x32x32, .f32⟩
  | 66 => ⟨S4096x4x32x32, .f32⟩
  | 67 => ⟨S4096x4x32x32, .f32⟩
  | 68 => ⟨S4096x4x32x32, .f32⟩
  | 69 => ⟨S_, .f32⟩
  | 70 => ⟨S32x32, .f32⟩
  | 71 => ⟨S32x32, .f32⟩
  | 72 => ⟨S1x1x32x32, .f32⟩
  | 73 => ⟨S4096x4x32x32, .f32⟩
  | 74 => ⟨S4096x4x32x32, .f32⟩
  | 75 => ⟨S4096x4x32x32, .f32⟩
  | 76 => ⟨S_, .f32⟩
  | 77 => ⟨S32x32, .f32⟩
  | 78 => ⟨S32x32, .f32⟩
  | 79 => ⟨S1x1x32x32, .f32⟩
  | 80 => ⟨S4096x4x32x32, .f32⟩
  | 81 => ⟨S4096x4x32x32, .f32⟩
  | 82 => ⟨S4096x4x32x32, .f32⟩
  | 83 => ⟨S_, .f32⟩
  | 84 => ⟨S4096x4x32x32, .f32⟩
  | 85 => ⟨S4096x4x32x32, .f32⟩
  | 86 => ⟨S_, .f32⟩
  | 87 => ⟨S32x32, .f32⟩
  | 88 => ⟨S32x32, .f32⟩
  | 89 => ⟨S1x1x32x32, .f32⟩
  | 90 => ⟨S4096x4x32x32, .f32⟩
  | 91 => ⟨S4096x4x32x32, .f32⟩
  | 92 => ⟨S4096x4x32x32, .f32⟩
  | 93 => ⟨S4096x4x32x32, .f32⟩
  | 94 => ⟨S4096x4x32x32, .f32⟩
  | 95 => ⟨S_, .f32⟩
  | 96 => ⟨S4096x4x32x32, .f32⟩
  | 97 => ⟨S4096x4x32x32, .f32⟩
  | 98 => ⟨S_, .f32⟩
  | 99 => ⟨S32x32, .f32⟩
  | 100 => ⟨S32x32, .f32⟩
  | 101 => ⟨S1x1x32x32, .f32⟩
  | 102 => ⟨S4096x4x32x32, .f32⟩
  | 103 => ⟨S4096x4x32x32, .f32⟩
  | 104 => ⟨S4096x4x32x32, .f32⟩
  | 105 => ⟨S4096x4x32x32, .f32⟩
  | 106 => ⟨S4096x4x32x32, .f32⟩
  | 107 => ⟨S1x1x32x32, .f32⟩
  | 108 => ⟨S4096x4x32x32, .f32⟩
  | 109 => ⟨S4096x4x32x32, .f32⟩
  | 110 => ⟨S_, .f32⟩
  | 111 => ⟨S4096x4x32x32, .f32⟩
  | 112 => ⟨S4096x4x32x32, .f32⟩
  | 113 => ⟨S_, .f32⟩
  | 114 => ⟨S32x32, .f32⟩
  | 115 => ⟨S32x32, .f32⟩
  | 116 => ⟨S1x1x32x32, .f32⟩
  | 117 => ⟨S4096x4x32x32, .f32⟩
  | 118 => ⟨S4096x4x32x32, .f32⟩
  | 119 => ⟨S4096x4x32x32, .f32⟩
  | 120 => ⟨S_, .f32⟩
  | 121 => ⟨S32x32, .f32⟩
  | 122 => ⟨S32x32, .f32⟩
  | 123 => ⟨S1x1x32x32, .f32⟩
  | 124 => ⟨S4096x4x32x32, .f32⟩
  | 125 => ⟨S4096x4x32x32, .f32⟩
  | 126 => ⟨S4096x4x32x32, .f32⟩
  | 127 => ⟨S_, .f32⟩
  | _ => ⟨S4096x4x32x32, .f32⟩

abbrev hbmTy0_6 (i : Nat) : BufTy := match i % 128 with
  | 0 => ⟨S32x32, .f32⟩
  | 1 => ⟨S32x32, .f32⟩
  | 2 => ⟨S1x1x32x32, .f32⟩
  | 3 => ⟨S4096x4x32x32, .f32⟩
  | 4 => ⟨S4096x4x32x32, .f32⟩
  | 5 => ⟨S4096x4x32x32, .f32⟩
  | 6 => ⟨S_, .f32⟩
  | 7 => ⟨S4096x4x32x32, .f32⟩
  | 8 => ⟨S4096x4x32x32, .f32⟩
  | 9 => ⟨S1x1x32x32, .f32⟩
  | 10 => ⟨S4096x4x32x32, .f32⟩
  | 11 => ⟨S4096x4x32x32, .f32⟩
  | 12 => ⟨S4096x4x32x32, .f32⟩
  | 13 => ⟨S4096x4x32x32, .f32⟩
  | 14 => ⟨S4096x4x32x32, .f32⟩
  | 15 => ⟨S_, .f32⟩
  | 16 => ⟨S32x32, .f32⟩
  | 17 => ⟨S32x32, .f32⟩
  | 18 => ⟨S_, .f32⟩
  | 19 => ⟨S4096x4x32x32, .f32⟩
  | 20 => ⟨S4096x4x32x32, .f32⟩
  | 21 => ⟨S1x1x32x32, .f32⟩
  | 22 => ⟨S4096x4x32x32, .f32⟩
  | 23 => ⟨S4096x4x32x32, .f32⟩
  | 24 => ⟨S_, .f32⟩
  | 25 => ⟨S4096x4x32x32, .f32⟩
  | 26 => ⟨S4096x4x32x32, .f32⟩
  | 27 => ⟨S4096x4x32x32, .f32⟩
  | 28 => ⟨S_, .f32⟩
  | 29 => ⟨S4096x4x32x32, .f32⟩
  | 30 => ⟨S4096x4x32x32, .f32⟩
  | 31 => ⟨S4096x4x32x32, .f32⟩
  | 32 => ⟨S_, .f32⟩
  | 33 => ⟨S4096x4x32x32, .f32⟩
  | 34 => ⟨S4096x4x32x32, .f32⟩
  | 35 => ⟨S4096x4x32x32, .f32⟩
  | 36 => ⟨S4096x4x32x32, .f32⟩
  | 37 => ⟨S_, .f32⟩
  | 38 => ⟨S32x32, .f32⟩
  | 39 => ⟨S32x32, .f32⟩
  | 40 => ⟨S_, .f32⟩
  | 41 => ⟨S4096x4x32x32, .f32⟩
  | 42 => ⟨S4096x4x32x32, .f32⟩
  | 43 => ⟨S1x1x32x32, .f32⟩
  | 44 => ⟨S4096x4x32x32, .f32⟩
  | 45 => ⟨S4096x4x32x32, .f32⟩
  | 46 => ⟨S_, .f32⟩
  | 47 => ⟨S4096x4x32x32, .f32⟩
  | 48 => ⟨S4096x4x32x32, .f32⟩
  | 49 => ⟨S4096x4x32x32, .f32⟩
  | 50 => ⟨S_, .f32⟩
  | 51 => ⟨S4096x4x32x32, .f32⟩
  | 52 => ⟨S4096x4x32x32, .f32⟩
  | 53 => ⟨S4096x4x32x32, .f32⟩
  | 54 => ⟨S4096x4x32x32, .f32⟩
  | 55 => ⟨S4096x4x32x32, .f32⟩
  | 56 => ⟨S_, .f32⟩
  | 57 => ⟨S32x32, .f32⟩
  | 58 => ⟨S32x32, .f32⟩
  | 59 => ⟨S_, .f32⟩
  | 60 => ⟨S4096x4x32x32, .f32⟩
  | 61 => ⟨S4096x4x32x32, .f32⟩
  | 62 => ⟨S1x1x32x32, .f32⟩
  | 63 => ⟨S4096x4x32x32, .f32⟩
  | 64 => ⟨S4096x4x32x32, .f32⟩
  | 65 => ⟨S_, .f32⟩
  | 66 => ⟨S4096x4x32x32, .f32⟩
  | 67 => ⟨S4096x4x32x32, .f32⟩
  | 68 => ⟨S4096x4x32x32, .f32⟩
  | 69 => ⟨S_, .f32⟩
  | 70 => ⟨S4096x4x32x32, .f32⟩
  | 71 => ⟨S4096x4x32x32, .f32⟩
  | 72 => ⟨S4096x4x32x32, .f32⟩
  | 73 => ⟨S4096x4x32x32, .f32⟩
  | 74 => ⟨S_, .f32⟩
  | 75 => ⟨S_, .f32⟩
  | 76 => ⟨S_, .f32⟩
  | 77 => ⟨S32x32, .f32⟩
  | 78 => ⟨S32x32, .f32⟩
  | 79 => ⟨S1x1x32x32, .f32⟩
  | 80 => ⟨S4096x4x32x32, .f32⟩
  | 81 => ⟨S4096x4x32x32, .f32⟩
  | 82 => ⟨S_, .f32⟩
  | 83 => ⟨S4096x4x32x32, .f32⟩
  | 84 => ⟨S4096x4x32x32, .f32⟩
  | 85 => ⟨S4096x4x1x1, .f32⟩
  | 86 => ⟨S32x32, .i32⟩
  | 87 => ⟨S32x32, .i32⟩
  | 88 => ⟨S_, .i32⟩
  | 89 => ⟨S32x32, .i32⟩
  | 90 => ⟨S32x32, .i32⟩
  | 91 => ⟨S32x32, .i1⟩
  | 92 => ⟨S_, .f32⟩
  | 93 => ⟨S4096x4x32x32, .f32⟩
  | 94 => ⟨S4096x4x32x32, .i1⟩
  | 95 => ⟨S4096x4x32x32, .f32⟩
  | 96 => ⟨S_, .f32⟩
  | 97 => ⟨S4096x4, .f32⟩
  | 98 => ⟨S4096x4x1x1, .f32⟩
  | 99 => ⟨S_, .f32⟩
  | 100 => ⟨S4096x4x1x1, .f32⟩
  | 101 => ⟨S4096x4x1x1, .f32⟩
  | 102 => ⟨S1x1x32x32, .f32⟩
  | 103 => ⟨S4096x4x32x32, .f32⟩
  | 104 => ⟨S4096x4x32x32, .f32⟩
  | 105 => ⟨S4096x4x32x32, .f32⟩
  | 106 => ⟨S4096x4x32x32, .f32⟩
  | 107 => ⟨S1x4x1x1, .f32⟩
  | 108 => ⟨S4096x4x32x32, .f32⟩
  | 109 => ⟨S4096x4x32x32, .f32⟩
  | 110 => ⟨S_, .f32⟩
  | 111 => ⟨S4096x4x32x32, .f32⟩
  | 112 => ⟨S4096x4x32x32, .f32⟩
  | 113 => ⟨S4096x4x32x32, .f32⟩
  | 114 => ⟨S4096x4x32x32, .f32⟩
  | 115 => ⟨S_, .f32⟩
  | 116 => ⟨S4096x4x32x32, .f32⟩
  | 117 => ⟨S4096x4x32x32, .f32⟩
  | 118 => ⟨S_, .f32⟩
  | 119 => ⟨S4096x4x32x32, .f32⟩
  | 120 => ⟨S4096x4x32x32, .f32⟩
  | 121 => ⟨S4096x4x32x32, .f32⟩
  | 122 => ⟨S_, .f32⟩
  | 123 => ⟨S4096x4x32x32, .f32⟩
  | 124 => ⟨S4096x4x32x32, .f32⟩
  | 125 => ⟨S4096x4x32x32, .f32⟩
  | 126 => ⟨S4096x4x32x32, .f32⟩
  | 127 => ⟨S1x1x32x32, .f32⟩
  | _ => ⟨S4096x4x32x32, .f32⟩

abbrev hbmTy0_7 (i : Nat) : BufTy := match i % 128 with
  | 0 => ⟨S4096x4x32x32, .f32⟩
  | 1 => ⟨S4096x4x32x32, .f32⟩
  | 2 => ⟨S_, .f32⟩
  | 3 => ⟨S4096x4x32x32, .f32⟩
  | 4 => ⟨S4096x4x32x32, .f32⟩
  | 5 => ⟨S4096x4x32x32, .f32⟩
  | 6 => ⟨S_, .f32⟩
  | 7 => ⟨S4096x4x32x32, .f32⟩
  | 8 => ⟨S4096x4x32x32, .f32⟩
  | 9 => ⟨S4096x4x32x32, .f32⟩
  | 10 => ⟨S4096x4x32x32, .f32⟩
  | 11 => ⟨S4096x4x32x32, .f32⟩
  | 12 => ⟨S4096x4x32x32, .f32⟩
  | 13 => ⟨S4096x4x32x32, .f32⟩
  | 14 => ⟨S4096x4x32x32, .f32⟩
  | 15 => ⟨S4x32x4096x32, .f32⟩
  | 16 => ⟨S4096x4x32x32, .f32⟩
  | 17 => ⟨S4x4096x32x32, .f32⟩
  | 18 => ⟨S4096x4x32x32, .f32⟩
  | 19 => ⟨S4096x4x1x1, .f32⟩
  | 20 => ⟨S1x4x1x1, .f32⟩
  | 21 => ⟨S4096x4x1x1, .f32⟩
  | 22 => ⟨S4096x4x1x1, .f32⟩
  | 23 => ⟨S4096x4x1x1, .f32⟩
  | 24 => ⟨S4096x4x32x32, .f32⟩
  | 25 => ⟨S4096x4x32x32, .f32⟩
  | _ => ⟨S4096x4x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x4x32x32, .f32⟩

abbrev bufTy : (tb : Table) → Fin (tcTables nBuf tb) → BufTy
  | .hbm, ⟨i, _⟩ => hbmTy i
  | _, _ => ⟨S4096x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_18 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_19 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_20 : Ref sig .tc := ⟨.hbm, 142, rfl⟩
abbrev main_v115 : Ref sig .tc := ⟨.hbm, 143, rfl⟩
abbrev main_v116 : Ref sig .tc := ⟨.hbm, 144, rfl⟩
abbrev main_cst_21 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_22 : Ref sig .tc := ⟨.hbm, 154, rfl⟩
abbrev main_v125 : Ref sig .tc := ⟨.hbm, 155, rfl⟩
abbrev main_v126 : Ref sig .tc := ⟨.hbm, 156, rfl⟩
abbrev main_cst_23 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_24 : Ref sig .tc := ⟨.hbm, 166, rfl⟩
abbrev main_v135 : Ref sig .tc := ⟨.hbm, 167, rfl⟩
abbrev main_v136 : Ref sig .tc := ⟨.hbm, 168, rfl⟩
abbrev main_cst_25 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_26 : Ref sig .tc := ⟨.hbm, 178, rfl⟩
abbrev main_v145 : Ref sig .tc := ⟨.hbm, 179, rfl⟩
abbrev main_v146 : Ref sig .tc := ⟨.hbm, 180, rfl⟩
abbrev main_cst_27 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_28 : Ref sig .tc := ⟨.hbm, 193, rfl⟩
abbrev main_v158 : Ref sig .tc := ⟨.hbm, 194, rfl⟩
abbrev main_v159 : Ref sig .tc := ⟨.hbm, 195, rfl⟩
abbrev main_cst_29 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_30 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_31 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_32 : Ref sig .tc := ⟨.hbm, 217, rfl⟩
abbrev main_v178 : Ref sig .tc := ⟨.hbm, 218, rfl⟩
abbrev main_v179 : Ref sig .tc := ⟨.hbm, 219, rfl⟩
abbrev main_cst_33 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_34 : Ref sig .tc := ⟨.hbm, 229, rfl⟩
abbrev main_v188 : Ref sig .tc := ⟨.hbm, 230, rfl⟩
abbrev main_v189 : Ref sig .tc := ⟨.hbm, 231, rfl⟩
abbrev main_cst_35 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_cst_36 : Ref sig .tc := ⟨.hbm, 244, rfl⟩
abbrev main_v201 : Ref sig .tc := ⟨.hbm, 245, rfl⟩
abbrev main_v202 : Ref sig .tc := ⟨.hbm, 246, rfl⟩
abbrev main_cst_37 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_cst_38 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_cst_39 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_cst_40 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_cst_41 : Ref sig .tc := ⟨.hbm, 277, rfl⟩
abbrev main_v229 : Ref sig .tc := ⟨.hbm, 278, rfl⟩
abbrev main_v230 : Ref sig .tc := ⟨.hbm, 279, rfl⟩
abbrev main_cst_42 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_cst_43 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_cst_44 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_cst_45 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_cst_46 : Ref sig .tc := ⟨.hbm, 299, rfl⟩
abbrev main_v246 : Ref sig .tc := ⟨.hbm, 300, rfl⟩
abbrev main_v247 : Ref sig .tc := ⟨.hbm, 301, rfl⟩
abbrev main_cst_47 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_cst_48 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_cst_49 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_cst_50 : Ref sig .tc := ⟨.hbm, 318, rfl⟩
abbrev main_v261 : Ref sig .tc := ⟨.hbm, 319, rfl⟩
abbrev main_v262 : Ref sig .tc := ⟨.hbm, 320, rfl⟩
abbrev main_cst_51 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_cst_52 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_cst_53 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_cst_54 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_cst_55 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_cst_56 : Ref sig .tc := ⟨.hbm, 353, rfl⟩
abbrev main_v290 : Ref sig .tc := ⟨.hbm, 354, rfl⟩
abbrev main_cst_57 : Ref sig .tc := ⟨.hbm, 355, rfl⟩
abbrev main_v291 : Ref sig .tc := ⟨.hbm, 356, rfl⟩
abbrev main_v292 : Ref sig .tc := ⟨.hbm, 357, rfl⟩
abbrev main_cst_58 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_cst_59 : Ref sig .tc := ⟨.hbm, 363, rfl⟩
abbrev main_v297 : Ref sig .tc := ⟨.hbm, 364, rfl⟩
abbrev main_v298 : Ref sig .tc := ⟨.hbm, 365, rfl⟩
abbrev main_cst_60 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_cst_61 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_cst_62 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_cst_63 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_cst_64 : Ref sig .tc := ⟨.hbm, 394, rfl⟩
abbrev main_v323 : Ref sig .tc := ⟨.hbm, 395, rfl⟩
abbrev main_cst_65 : Ref sig .tc := ⟨.hbm, 396, rfl⟩
abbrev main_v324 : Ref sig .tc := ⟨.hbm, 397, rfl⟩
abbrev main_cst_66 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_cst_67 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_cst_68 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_cst_69 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_cst_70 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_cst_71 : Ref sig .tc := ⟨.hbm, 422, rfl⟩
abbrev main_v344 : Ref sig .tc := ⟨.hbm, 423, rfl⟩
abbrev main_v345 : Ref sig .tc := ⟨.hbm, 424, rfl⟩
abbrev main_cst_72 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_cst_73 : Ref sig .tc := ⟨.hbm, 434, rfl⟩
abbrev main_v354 : Ref sig .tc := ⟨.hbm, 435, rfl⟩
abbrev main_v355 : Ref sig .tc := ⟨.hbm, 436, rfl⟩
abbrev main_cst_74 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_cst_75 : Ref sig .tc := ⟨.hbm, 447, rfl⟩
abbrev main_v365 : Ref sig .tc := ⟨.hbm, 448, rfl⟩
abbrev main_v366 : Ref sig .tc := ⟨.hbm, 449, rfl⟩
abbrev main_cst_76 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_v373 : Ref sig .tc := ⟨.hbm, 457, rfl⟩
abbrev main_v374 : Ref sig .tc := ⟨.hbm, 458, rfl⟩
abbrev main_v375 : Ref sig .tc := ⟨.hbm, 459, rfl⟩
abbrev main_cst_77 : Ref sig .tc := ⟨.hbm, 460, rfl⟩
abbrev main_v376 : Ref sig .tc := ⟨.hbm, 461, rfl⟩
abbrev main_v377 : Ref sig .tc := ⟨.hbm, 462, rfl⟩
abbrev main_cst_78 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_cst_79 : Ref sig .tc := ⟨.hbm, 473, rfl⟩
abbrev main_v387 : Ref sig .tc := ⟨.hbm, 474, rfl⟩
abbrev main_v388 : Ref sig .tc := ⟨.hbm, 475, rfl⟩
abbrev main_cst_80 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_cst_81 : Ref sig .tc := ⟨.hbm, 489, rfl⟩
abbrev main_v401 : Ref sig .tc := ⟨.hbm, 490, rfl⟩
abbrev main_v402 : Ref sig .tc := ⟨.hbm, 491, rfl⟩
abbrev main_cst_82 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_cst_83 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_cst_84 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_cst_85 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_cst_86 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_cst_87 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_v437 : Ref sig .tc := ⟨.hbm, 532, rfl⟩
abbrev main_cst_88 : Ref sig .tc := ⟨.hbm, 533, rfl⟩
abbrev main_v438 : Ref sig .tc := ⟨.hbm, 534, rfl⟩
abbrev main_v439 : Ref sig .tc := ⟨.hbm, 535, rfl⟩
abbrev main_cst_89 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_v447 : Ref sig .tc := ⟨.hbm, 544, rfl⟩
abbrev main_cst_90 : Ref sig .tc := ⟨.hbm, 545, rfl⟩
abbrev main_v448 : Ref sig .tc := ⟨.hbm, 546, rfl⟩
abbrev main_v449 : Ref sig .tc := ⟨.hbm, 547, rfl⟩
abbrev main_cst_91 : Ref sig .tc := ⟨.hbm, 548, rfl⟩
abbrev main_v450 : Ref sig .tc := ⟨.hbm, 549, rfl⟩
abbrev main_v451 : Ref sig .tc := ⟨.hbm, 550, rfl⟩
abbrev main_v452 : Ref sig .tc := ⟨.hbm, 551, rfl⟩
abbrev main_v453 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_cst_92 : Ref sig .tc := ⟨.hbm, 558, rfl⟩
abbrev main_v459 : Ref sig .tc := ⟨.hbm, 559, rfl⟩
abbrev main_v460 : Ref sig .tc := ⟨.hbm, 560, rfl⟩
abbrev main_cst_93 : Ref sig .tc := ⟨.hbm, 561, rfl⟩
abbrev main_v461 : Ref sig .tc := ⟨.hbm, 562, rfl⟩
abbrev main_v462 : Ref sig .tc := ⟨.hbm, 563, rfl⟩
abbrev main_v463 : Ref sig .tc := ⟨.hbm, 564, rfl⟩
abbrev main_v464 : Ref sig .tc := ⟨.hbm, 565, rfl⟩
abbrev main_v465 : Ref sig .tc := ⟨.hbm, 566, rfl⟩
abbrev main_v466 : Ref sig .tc := ⟨.hbm, 567, rfl⟩
abbrev main_v467 : Ref sig .tc := ⟨.hbm, 568, rfl⟩
abbrev main_v468 : Ref sig .tc := ⟨.hbm, 569, rfl⟩
abbrev main_v469 : Ref sig .tc := ⟨.hbm, 570, rfl⟩
abbrev main_cst_94 : Ref sig .tc := ⟨.hbm, 571, rfl⟩
abbrev main_v470 : Ref sig .tc := ⟨.hbm, 572, rfl⟩
abbrev main_v471 : Ref sig .tc := ⟨.hbm, 573, rfl⟩
abbrev main_cst_95 : Ref sig .tc := ⟨.hbm, 574, rfl⟩
abbrev main_v472 : Ref sig .tc := ⟨.hbm, 575, rfl⟩
abbrev main_v473 : Ref sig .tc := ⟨.hbm, 576, rfl⟩
abbrev main_v474 : Ref sig .tc := ⟨.hbm, 577, rfl⟩
abbrev main_v475 : Ref sig .tc := ⟨.hbm, 578, rfl⟩
abbrev main_v476 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_cst_96 : Ref sig .tc := ⟨.hbm, 584, rfl⟩
abbrev main_v481 : Ref sig .tc := ⟨.hbm, 585, rfl⟩
abbrev main_v482 : Ref sig .tc := ⟨.hbm, 586, rfl⟩
abbrev main_cst_97 : Ref sig .tc := ⟨.hbm, 587, rfl⟩
abbrev main_v483 : Ref sig .tc := ⟨.hbm, 588, rfl⟩
abbrev main_v484 : Ref sig .tc := ⟨.hbm, 589, rfl⟩
abbrev main_v485 : Ref sig .tc := ⟨.hbm, 590, rfl⟩
abbrev main_v486 : Ref sig .tc := ⟨.hbm, 591, rfl⟩
abbrev main_v487 : Ref sig .tc := ⟨.hbm, 592, rfl⟩
abbrev main_v488 : Ref sig .tc := ⟨.hbm, 593, rfl⟩
abbrev main_v489 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_v494 : Ref sig .tc := ⟨.hbm, 599, rfl⟩
abbrev main_cst_98 : Ref sig .tc := ⟨.hbm, 600, rfl⟩
abbrev main_v495 : Ref sig .tc := ⟨.hbm, 601, rfl⟩
abbrev main_v496 : Ref sig .tc := ⟨.hbm, 602, rfl⟩
abbrev main_cst_99 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_v501 : Ref sig .tc := ⟨.hbm, 608, rfl⟩
abbrev main_v502 : Ref sig .tc := ⟨.hbm, 609, rfl⟩
abbrev main_cst_100 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_v507 : Ref sig .tc := ⟨.hbm, 615, rfl⟩
abbrev main_v508 : Ref sig .tc := ⟨.hbm, 616, rfl⟩
abbrev main_cst_101 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_v512 : Ref sig .tc := ⟨.hbm, 621, rfl⟩
abbrev main_v513 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_v517 : Ref sig .tc := ⟨.hbm, 626, rfl⟩
abbrev main_v518 : Ref sig .tc := ⟨.hbm, 627, rfl⟩
abbrev main_v519 : Ref sig .tc := ⟨.hbm, 628, rfl⟩
abbrev main_cst_102 : Ref sig .tc := ⟨.hbm, 629, rfl⟩
abbrev main_v520 : Ref sig .tc := ⟨.hbm, 630, rfl⟩
abbrev main_v521 : Ref sig .tc := ⟨.hbm, 631, rfl⟩
abbrev main_v522 : Ref sig .tc := ⟨.hbm, 632, rfl⟩
abbrev main_v523 : Ref sig .tc := ⟨.hbm, 633, rfl⟩
abbrev main_v524 : Ref sig .tc := ⟨.hbm, 634, rfl⟩
abbrev main_v525 : Ref sig .tc := ⟨.hbm, 635, rfl⟩
abbrev main_v526 : Ref sig .tc := ⟨.hbm, 636, rfl⟩
abbrev main_v527 : Ref sig .tc := ⟨.hbm, 637, rfl⟩
abbrev main_v528 : Ref sig .tc := ⟨.hbm, 638, rfl⟩
abbrev main_cst_103 : Ref sig .tc := ⟨.hbm, 639, rfl⟩
abbrev main_v529 : Ref sig .tc := ⟨.hbm, 640, rfl⟩
abbrev main_v530 : Ref sig .tc := ⟨.hbm, 641, rfl⟩
abbrev main_v531 : Ref sig .tc := ⟨.hbm, 642, rfl⟩
abbrev main_cst_104 : Ref sig .tc := ⟨.hbm, 643, rfl⟩
abbrev main_v532 : Ref sig .tc := ⟨.hbm, 644, rfl⟩
abbrev main_v533 : Ref sig .tc := ⟨.hbm, 645, rfl⟩
abbrev main_v534 : Ref sig .tc := ⟨.hbm, 646, rfl⟩
abbrev main_v535 : Ref sig .tc := ⟨.hbm, 647, rfl⟩
abbrev main_cst_105 : Ref sig .tc := ⟨.hbm, 648, rfl⟩
abbrev main_v536 : Ref sig .tc := ⟨.hbm, 649, rfl⟩
abbrev main_v537 : Ref sig .tc := ⟨.hbm, 650, rfl⟩
abbrev main_cst_106 : Ref sig .tc := ⟨.hbm, 651, rfl⟩
abbrev main_v538 : Ref sig .tc := ⟨.hbm, 652, rfl⟩
abbrev main_v539 : Ref sig .tc := ⟨.hbm, 653, rfl⟩
abbrev main_v540 : Ref sig .tc := ⟨.hbm, 654, rfl⟩
abbrev main_v541 : Ref sig .tc := ⟨.hbm, 655, rfl⟩
abbrev main_v542 : Ref sig .tc := ⟨.hbm, 656, rfl⟩
abbrev main_v543 : Ref sig .tc := ⟨.hbm, 657, rfl⟩
abbrev main_v544 : Ref sig .tc := ⟨.hbm, 658, rfl⟩
abbrev main_v545 : Ref sig .tc := ⟨.hbm, 659, rfl⟩
abbrev main_cst_107 : Ref sig .tc := ⟨.hbm, 660, rfl⟩
abbrev main_v546 : Ref sig .tc := ⟨.hbm, 661, rfl⟩
abbrev main_v547 : Ref sig .tc := ⟨.hbm, 662, rfl⟩
abbrev main_cst_108 : Ref sig .tc := ⟨.hbm, 663, rfl⟩
abbrev main_v548 : Ref sig .tc := ⟨.hbm, 664, rfl⟩
abbrev main_v549 : Ref sig .tc := ⟨.hbm, 665, rfl⟩
abbrev main_v550 : Ref sig .tc := ⟨.hbm, 666, rfl⟩
abbrev main_v551 : Ref sig .tc := ⟨.hbm, 667, rfl⟩
abbrev main_v552 : Ref sig .tc := ⟨.hbm, 668, rfl⟩
abbrev main_v553 : Ref sig .tc := ⟨.hbm, 669, rfl⟩
abbrev main_v554 : Ref sig .tc := ⟨.hbm, 670, rfl⟩
abbrev main_v555 : Ref sig .tc := ⟨.hbm, 671, rfl⟩
abbrev main_cst_109 : Ref sig .tc := ⟨.hbm, 672, rfl⟩
abbrev main_v556 : Ref sig .tc := ⟨.hbm, 673, rfl⟩
abbrev main_v557 : Ref sig .tc := ⟨.hbm, 674, rfl⟩
abbrev main_cst_110 : Ref sig .tc := ⟨.hbm, 675, rfl⟩
abbrev main_v558 : Ref sig .tc := ⟨.hbm, 676, rfl⟩
abbrev main_v559 : Ref sig .tc := ⟨.hbm, 677, rfl⟩
abbrev main_v560 : Ref sig .tc := ⟨.hbm, 678, rfl⟩
abbrev main_v561 : Ref sig .tc := ⟨.hbm, 679, rfl⟩
abbrev main_v562 : Ref sig .tc := ⟨.hbm, 680, rfl⟩
abbrev main_v563 : Ref sig .tc := ⟨.hbm, 681, rfl⟩
abbrev main_v564 : Ref sig .tc := ⟨.hbm, 682, rfl⟩
abbrev main_v565 : Ref sig .tc := ⟨.hbm, 683, rfl⟩
abbrev main_cst_111 : Ref sig .tc := ⟨.hbm, 684, rfl⟩
abbrev main_v566 : Ref sig .tc := ⟨.hbm, 685, rfl⟩
abbrev main_v567 : Ref sig .tc := ⟨.hbm, 686, rfl⟩
abbrev main_cst_112 : Ref sig .tc := ⟨.hbm, 687, rfl⟩
abbrev main_v568 : Ref sig .tc := ⟨.hbm, 688, rfl⟩
abbrev main_v569 : Ref sig .tc := ⟨.hbm, 689, rfl⟩
abbrev main_v570 : Ref sig .tc := ⟨.hbm, 690, rfl⟩
abbrev main_v571 : Ref sig .tc := ⟨.hbm, 691, rfl⟩
abbrev main_v572 : Ref sig .tc := ⟨.hbm, 692, rfl⟩
abbrev main_v573 : Ref sig .tc := ⟨.hbm, 693, rfl⟩
abbrev main_v574 : Ref sig .tc := ⟨.hbm, 694, rfl⟩
abbrev main_v575 : Ref sig .tc := ⟨.hbm, 695, rfl⟩
abbrev main_v576 : Ref sig .tc := ⟨.hbm, 696, rfl⟩
abbrev main_v577 : Ref sig .tc := ⟨.hbm, 697, rfl⟩
abbrev main_v578 : Ref sig .tc := ⟨.hbm, 698, rfl⟩
abbrev main_cst_113 : Ref sig .tc := ⟨.hbm, 699, rfl⟩
abbrev main_v579 : Ref sig .tc := ⟨.hbm, 700, rfl⟩
abbrev main_v580 : Ref sig .tc := ⟨.hbm, 701, rfl⟩
abbrev main_cst_114 : Ref sig .tc := ⟨.hbm, 702, rfl⟩
abbrev main_v581 : Ref sig .tc := ⟨.hbm, 703, rfl⟩
abbrev main_v582 : Ref sig .tc := ⟨.hbm, 704, rfl⟩
abbrev main_v583 : Ref sig .tc := ⟨.hbm, 705, rfl⟩
abbrev main_v584 : Ref sig .tc := ⟨.hbm, 706, rfl⟩
abbrev main_v585 : Ref sig .tc := ⟨.hbm, 707, rfl⟩
abbrev main_v586 : Ref sig .tc := ⟨.hbm, 708, rfl⟩
abbrev main_cst_115 : Ref sig .tc := ⟨.hbm, 709, rfl⟩
abbrev main_v587 : Ref sig .tc := ⟨.hbm, 710, rfl⟩
abbrev main_v588 : Ref sig .tc := ⟨.hbm, 711, rfl⟩
abbrev main_v589 : Ref sig .tc := ⟨.hbm, 712, rfl⟩
abbrev main_v590 : Ref sig .tc := ⟨.hbm, 713, rfl⟩
abbrev main_v591 : Ref sig .tc := ⟨.hbm, 714, rfl⟩
abbrev main_v592 : Ref sig .tc := ⟨.hbm, 715, rfl⟩
abbrev main_cst_116 : Ref sig .tc := ⟨.hbm, 716, rfl⟩
abbrev main_v593 : Ref sig .tc := ⟨.hbm, 717, rfl⟩
abbrev main_v594 : Ref sig .tc := ⟨.hbm, 718, rfl⟩
abbrev main_v595 : Ref sig .tc := ⟨.hbm, 719, rfl⟩
abbrev main_v596 : Ref sig .tc := ⟨.hbm, 720, rfl⟩
abbrev main_v597 : Ref sig .tc := ⟨.hbm, 721, rfl⟩
abbrev main_v598 : Ref sig .tc := ⟨.hbm, 722, rfl⟩
abbrev main_cst_117 : Ref sig .tc := ⟨.hbm, 723, rfl⟩
abbrev main_v599 : Ref sig .tc := ⟨.hbm, 724, rfl⟩
abbrev main_v600 : Ref sig .tc := ⟨.hbm, 725, rfl⟩
abbrev main_cst_118 : Ref sig .tc := ⟨.hbm, 726, rfl⟩
abbrev main_v601 : Ref sig .tc := ⟨.hbm, 727, rfl⟩
abbrev main_v602 : Ref sig .tc := ⟨.hbm, 728, rfl⟩
abbrev main_v603 : Ref sig .tc := ⟨.hbm, 729, rfl⟩
abbrev main_v604 : Ref sig .tc := ⟨.hbm, 730, rfl⟩
abbrev main_v605 : Ref sig .tc := ⟨.hbm, 731, rfl⟩
abbrev main_v606 : Ref sig .tc := ⟨.hbm, 732, rfl⟩
abbrev main_v607 : Ref sig .tc := ⟨.hbm, 733, rfl⟩
abbrev main_v608 : Ref sig .tc := ⟨.hbm, 734, rfl⟩
abbrev main_cst_119 : Ref sig .tc := ⟨.hbm, 735, rfl⟩
abbrev main_v609 : Ref sig .tc := ⟨.hbm, 736, rfl⟩
abbrev main_v610 : Ref sig .tc := ⟨.hbm, 737, rfl⟩
abbrev main_cst_120 : Ref sig .tc := ⟨.hbm, 738, rfl⟩
abbrev main_v611 : Ref sig .tc := ⟨.hbm, 739, rfl⟩
abbrev main_v612 : Ref sig .tc := ⟨.hbm, 740, rfl⟩
abbrev main_v613 : Ref sig .tc := ⟨.hbm, 741, rfl⟩
abbrev main_v614 : Ref sig .tc := ⟨.hbm, 742, rfl⟩
abbrev main_v615 : Ref sig .tc := ⟨.hbm, 743, rfl⟩
abbrev main_v616 : Ref sig .tc := ⟨.hbm, 744, rfl⟩
abbrev main_v617 : Ref sig .tc := ⟨.hbm, 745, rfl⟩
abbrev main_v618 : Ref sig .tc := ⟨.hbm, 746, rfl⟩
abbrev main_v619 : Ref sig .tc := ⟨.hbm, 747, rfl⟩
abbrev main_v620 : Ref sig .tc := ⟨.hbm, 748, rfl⟩
abbrev main_v621 : Ref sig .tc := ⟨.hbm, 749, rfl⟩
abbrev main_cst_121 : Ref sig .tc := ⟨.hbm, 750, rfl⟩
abbrev main_v622 : Ref sig .tc := ⟨.hbm, 751, rfl⟩
abbrev main_v623 : Ref sig .tc := ⟨.hbm, 752, rfl⟩
abbrev main_cst_122 : Ref sig .tc := ⟨.hbm, 753, rfl⟩
abbrev main_v624 : Ref sig .tc := ⟨.hbm, 754, rfl⟩
abbrev main_v625 : Ref sig .tc := ⟨.hbm, 755, rfl⟩
abbrev main_v626 : Ref sig .tc := ⟨.hbm, 756, rfl⟩
abbrev main_v627 : Ref sig .tc := ⟨.hbm, 757, rfl⟩
abbrev main_v628 : Ref sig .tc := ⟨.hbm, 758, rfl⟩
abbrev main_v629 : Ref sig .tc := ⟨.hbm, 759, rfl⟩
abbrev main_cst_123 : Ref sig .tc := ⟨.hbm, 760, rfl⟩
abbrev main_v630 : Ref sig .tc := ⟨.hbm, 761, rfl⟩
abbrev main_v631 : Ref sig .tc := ⟨.hbm, 762, rfl⟩
abbrev main_v632 : Ref sig .tc := ⟨.hbm, 763, rfl⟩
abbrev main_v633 : Ref sig .tc := ⟨.hbm, 764, rfl⟩
abbrev main_v634 : Ref sig .tc := ⟨.hbm, 765, rfl⟩
abbrev main_v635 : Ref sig .tc := ⟨.hbm, 766, rfl⟩
abbrev main_cst_124 : Ref sig .tc := ⟨.hbm, 767, rfl⟩
abbrev main_v636 : Ref sig .tc := ⟨.hbm, 768, rfl⟩
abbrev main_v637 : Ref sig .tc := ⟨.hbm, 769, rfl⟩
abbrev main_v638 : Ref sig .tc := ⟨.hbm, 770, rfl⟩
abbrev main_v639 : Ref sig .tc := ⟨.hbm, 771, rfl⟩
abbrev main_v640 : Ref sig .tc := ⟨.hbm, 772, rfl⟩
abbrev main_v641 : Ref sig .tc := ⟨.hbm, 773, rfl⟩
abbrev main_cst_125 : Ref sig .tc := ⟨.hbm, 774, rfl⟩
abbrev main_v642 : Ref sig .tc := ⟨.hbm, 775, rfl⟩
abbrev main_v643 : Ref sig .tc := ⟨.hbm, 776, rfl⟩
abbrev main_v644 : Ref sig .tc := ⟨.hbm, 777, rfl⟩
abbrev main_v645 : Ref sig .tc := ⟨.hbm, 778, rfl⟩
abbrev main_v646 : Ref sig .tc := ⟨.hbm, 779, rfl⟩
abbrev main_v647 : Ref sig .tc := ⟨.hbm, 780, rfl⟩
abbrev main_v648 : Ref sig .tc := ⟨.hbm, 781, rfl⟩
abbrev main_v649 : Ref sig .tc := ⟨.hbm, 782, rfl⟩
abbrev main_cst_126 : Ref sig .tc := ⟨.hbm, 783, rfl⟩
abbrev main_v650 : Ref sig .tc := ⟨.hbm, 784, rfl⟩
abbrev main_v651 : Ref sig .tc := ⟨.hbm, 785, rfl⟩
abbrev main_cst_127 : Ref sig .tc := ⟨.hbm, 786, rfl⟩
abbrev main_v652 : Ref sig .tc := ⟨.hbm, 787, rfl⟩
abbrev main_v653 : Ref sig .tc := ⟨.hbm, 788, rfl⟩
abbrev main_v654 : Ref sig .tc := ⟨.hbm, 789, rfl⟩
abbrev main_v655 : Ref sig .tc := ⟨.hbm, 790, rfl⟩
abbrev main_v656 : Ref sig .tc := ⟨.hbm, 791, rfl⟩
abbrev main_cst_128 : Ref sig .tc := ⟨.hbm, 792, rfl⟩
abbrev main_v657 : Ref sig .tc := ⟨.hbm, 793, rfl⟩
abbrev main_v658 : Ref sig .tc := ⟨.hbm, 794, rfl⟩
abbrev main_v659 : Ref sig .tc := ⟨.hbm, 795, rfl⟩
abbrev main_cst_129 : Ref sig .tc := ⟨.hbm, 796, rfl⟩
abbrev main_v660 : Ref sig .tc := ⟨.hbm, 797, rfl⟩
abbrev main_v661 : Ref sig .tc := ⟨.hbm, 798, rfl⟩
abbrev main_v662 : Ref sig .tc := ⟨.hbm, 799, rfl⟩
abbrev main_cst_130 : Ref sig .tc := ⟨.hbm, 800, rfl⟩
abbrev main_v663 : Ref sig .tc := ⟨.hbm, 801, rfl⟩
abbrev main_v664 : Ref sig .tc := ⟨.hbm, 802, rfl⟩
abbrev main_v665 : Ref sig .tc := ⟨.hbm, 803, rfl⟩
abbrev main_v666 : Ref sig .tc := ⟨.hbm, 804, rfl⟩
abbrev main_cst_131 : Ref sig .tc := ⟨.hbm, 805, rfl⟩
abbrev main_v667 : Ref sig .tc := ⟨.hbm, 806, rfl⟩
abbrev main_v668 : Ref sig .tc := ⟨.hbm, 807, rfl⟩
abbrev main_cst_132 : Ref sig .tc := ⟨.hbm, 808, rfl⟩
abbrev main_v669 : Ref sig .tc := ⟨.hbm, 809, rfl⟩
abbrev main_v670 : Ref sig .tc := ⟨.hbm, 810, rfl⟩
abbrev main_v671 : Ref sig .tc := ⟨.hbm, 811, rfl⟩
abbrev main_v672 : Ref sig .tc := ⟨.hbm, 812, rfl⟩
abbrev main_v673 : Ref sig .tc := ⟨.hbm, 813, rfl⟩
abbrev main_cst_133 : Ref sig .tc := ⟨.hbm, 814, rfl⟩
abbrev main_v674 : Ref sig .tc := ⟨.hbm, 815, rfl⟩
abbrev main_v675 : Ref sig .tc := ⟨.hbm, 816, rfl⟩
abbrev main_v676 : Ref sig .tc := ⟨.hbm, 817, rfl⟩
abbrev main_cst_134 : Ref sig .tc := ⟨.hbm, 818, rfl⟩
abbrev main_v677 : Ref sig .tc := ⟨.hbm, 819, rfl⟩
abbrev main_v678 : Ref sig .tc := ⟨.hbm, 820, rfl⟩
abbrev main_v679 : Ref sig .tc := ⟨.hbm, 821, rfl⟩
abbrev main_v680 : Ref sig .tc := ⟨.hbm, 822, rfl⟩
abbrev main_v681 : Ref sig .tc := ⟨.hbm, 823, rfl⟩
abbrev main_cst_135 : Ref sig .tc := ⟨.hbm, 824, rfl⟩
abbrev main_v682 : Ref sig .tc := ⟨.hbm, 825, rfl⟩
abbrev main_v683 : Ref sig .tc := ⟨.hbm, 826, rfl⟩
abbrev main_cst_136 : Ref sig .tc := ⟨.hbm, 827, rfl⟩
abbrev main_v684 : Ref sig .tc := ⟨.hbm, 828, rfl⟩
abbrev main_v685 : Ref sig .tc := ⟨.hbm, 829, rfl⟩
abbrev main_v686 : Ref sig .tc := ⟨.hbm, 830, rfl⟩
abbrev main_v687 : Ref sig .tc := ⟨.hbm, 831, rfl⟩
abbrev main_v688 : Ref sig .tc := ⟨.hbm, 832, rfl⟩
abbrev main_cst_137 : Ref sig .tc := ⟨.hbm, 833, rfl⟩
abbrev main_v689 : Ref sig .tc := ⟨.hbm, 834, rfl⟩
abbrev main_v690 : Ref sig .tc := ⟨.hbm, 835, rfl⟩
abbrev main_v691 : Ref sig .tc := ⟨.hbm, 836, rfl⟩
abbrev main_cst_138 : Ref sig .tc := ⟨.hbm, 837, rfl⟩
abbrev main_v692 : Ref sig .tc := ⟨.hbm, 838, rfl⟩
abbrev main_v693 : Ref sig .tc := ⟨.hbm, 839, rfl⟩
abbrev main_v694 : Ref sig .tc := ⟨.hbm, 840, rfl⟩
abbrev main_v695 : Ref sig .tc := ⟨.hbm, 841, rfl⟩
abbrev main_cst_139 : Ref sig .tc := ⟨.hbm, 842, rfl⟩
abbrev main_v696 : Ref sig .tc := ⟨.hbm, 843, rfl⟩
abbrev main_v697 : Ref sig .tc := ⟨.hbm, 844, rfl⟩
abbrev main_v698 : Ref sig .tc := ⟨.hbm, 845, rfl⟩
abbrev main_v699 : Ref sig .tc := ⟨.hbm, 846, rfl⟩
abbrev main_v700 : Ref sig .tc := ⟨.hbm, 847, rfl⟩
abbrev main_v701 : Ref sig .tc := ⟨.hbm, 848, rfl⟩
abbrev main_v702 : Ref sig .tc := ⟨.hbm, 849, rfl⟩
abbrev main_cst_140 : Ref sig .tc := ⟨.hbm, 850, rfl⟩
abbrev main_v703 : Ref sig .tc := ⟨.hbm, 851, rfl⟩
abbrev main_v704 : Ref sig .tc := ⟨.hbm, 852, rfl⟩
abbrev main_v705 : Ref sig .tc := ⟨.hbm, 853, rfl⟩
abbrev main_call0_v0 : Ref sig .tc := ⟨.hbm, 854, rfl⟩
abbrev main_call0_v1 : Ref sig .tc := ⟨.hbm, 855, rfl⟩
abbrev main_call0_c : Ref sig .tc := ⟨.hbm, 856, rfl⟩
abbrev main_call0_v2 : Ref sig .tc := ⟨.hbm, 857, rfl⟩
abbrev main_call0_v3 : Ref sig .tc := ⟨.hbm, 858, rfl⟩
abbrev main_call0_v4 : Ref sig .tc := ⟨.hbm, 859, rfl⟩
abbrev main_call0_cst : Ref sig .tc := ⟨.hbm, 860, rfl⟩
abbrev main_call0_v5 : Ref sig .tc := ⟨.hbm, 861, rfl⟩
abbrev main_call0_call0_v0 : Ref sig .tc := ⟨.hbm, 862, rfl⟩
abbrev main_call0_v6 : Ref sig .tc := ⟨.hbm, 863, rfl⟩
abbrev main_call0_cst_0 : Ref sig .tc := ⟨.hbm, 864, rfl⟩
abbrev main_v706 : Ref sig .tc := ⟨.hbm, 865, rfl⟩
abbrev main_v707 : Ref sig .tc := ⟨.hbm, 866, rfl⟩
abbrev main_cst_141 : Ref sig .tc := ⟨.hbm, 867, rfl⟩
abbrev main_v708 : Ref sig .tc := ⟨.hbm, 868, rfl⟩
abbrev main_v709 : Ref sig .tc := ⟨.hbm, 869, rfl⟩
abbrev main_v710 : Ref sig .tc := ⟨.hbm, 870, rfl⟩
abbrev main_v711 : Ref sig .tc := ⟨.hbm, 871, rfl⟩
abbrev main_v712 : Ref sig .tc := ⟨.hbm, 872, rfl⟩
abbrev main_v713 : Ref sig .tc := ⟨.hbm, 873, rfl⟩
abbrev main_v714 : Ref sig .tc := ⟨.hbm, 874, rfl⟩
abbrev main_v715 : Ref sig .tc := ⟨.hbm, 875, rfl⟩
abbrev main_v716 : Ref sig .tc := ⟨.hbm, 876, rfl⟩
abbrev main_v717 : Ref sig .tc := ⟨.hbm, 877, rfl⟩
abbrev main_cst_142 : Ref sig .tc := ⟨.hbm, 878, rfl⟩
abbrev main_v718 : Ref sig .tc := ⟨.hbm, 879, rfl⟩
abbrev main_v719 : Ref sig .tc := ⟨.hbm, 880, rfl⟩
abbrev main_v720 : Ref sig .tc := ⟨.hbm, 881, rfl⟩
abbrev main_v721 : Ref sig .tc := ⟨.hbm, 882, rfl⟩
abbrev main_cst_143 : Ref sig .tc := ⟨.hbm, 883, rfl⟩
abbrev main_v722 : Ref sig .tc := ⟨.hbm, 884, rfl⟩
abbrev main_v723 : Ref sig .tc := ⟨.hbm, 885, rfl⟩
abbrev main_cst_144 : Ref sig .tc := ⟨.hbm, 886, rfl⟩
abbrev main_v724 : Ref sig .tc := ⟨.hbm, 887, rfl⟩
abbrev main_v725 : Ref sig .tc := ⟨.hbm, 888, rfl⟩
abbrev main_v726 : Ref sig .tc := ⟨.hbm, 889, rfl⟩
abbrev main_cst_145 : Ref sig .tc := ⟨.hbm, 890, rfl⟩
abbrev main_v727 : Ref sig .tc := ⟨.hbm, 891, rfl⟩
abbrev main_v728 : Ref sig .tc := ⟨.hbm, 892, rfl⟩
abbrev main_v729 : Ref sig .tc := ⟨.hbm, 893, rfl⟩
abbrev main_v730 : Ref sig .tc := ⟨.hbm, 894, rfl⟩
abbrev main_v731 : Ref sig .tc := ⟨.hbm, 895, rfl⟩
abbrev main_v732 : Ref sig .tc := ⟨.hbm, 896, rfl⟩
abbrev main_v733 : Ref sig .tc := ⟨.hbm, 897, rfl⟩
abbrev main_cst_146 : Ref sig .tc := ⟨.hbm, 898, rfl⟩
abbrev main_v734 : Ref sig .tc := ⟨.hbm, 899, rfl⟩
abbrev main_v735 : Ref sig .tc := ⟨.hbm, 900, rfl⟩
abbrev main_v736 : Ref sig .tc := ⟨.hbm, 901, rfl⟩
abbrev main_cst_147 : Ref sig .tc := ⟨.hbm, 902, rfl⟩
abbrev main_v737 : Ref sig .tc := ⟨.hbm, 903, rfl⟩
abbrev main_v738 : Ref sig .tc := ⟨.hbm, 904, rfl⟩
abbrev main_v739 : Ref sig .tc := ⟨.hbm, 905, rfl⟩
abbrev main_v740 : Ref sig .tc := ⟨.hbm, 906, rfl⟩
abbrev main_v741 : Ref sig .tc := ⟨.hbm, 907, rfl⟩
abbrev main_v742 : Ref sig .tc := ⟨.hbm, 908, rfl⟩
abbrev main_v743 : Ref sig .tc := ⟨.hbm, 909, rfl⟩
abbrev main_v744 : Ref sig .tc := ⟨.hbm, 910, rfl⟩
abbrev main_v745 : Ref sig .tc := ⟨.hbm, 911, rfl⟩
abbrev main_v746 : Ref sig .tc := ⟨.hbm, 912, rfl⟩
abbrev main_v747 : Ref sig .tc := ⟨.hbm, 913, rfl⟩
abbrev main_v748 : Ref sig .tc := ⟨.hbm, 914, rfl⟩
abbrev main_v749 : Ref sig .tc := ⟨.hbm, 915, rfl⟩
abbrev main_v750 : Ref sig .tc := ⟨.hbm, 916, rfl⟩
abbrev main_v751 : Ref sig .tc := ⟨.hbm, 917, rfl⟩
abbrev main_v752 : Ref sig .tc := ⟨.hbm, 918, rfl⟩
abbrev main_v753 : Ref sig .tc := ⟨.hbm, 919, rfl⟩
abbrev main_v754 : Ref sig .tc := ⟨.hbm, 920, rfl⟩
abbrev main_v755 : Ref sig .tc := ⟨.hbm, 921, rfl⟩

abbrev nD : Nat := 1
abbrev τ : Topo := Topo.v7x

variable {F : FTy → Type} [FloatOps F]
-- ==== Proof.KerRun.lean ====
/-
  The kernel's program runs, and its result array ends at what the last stretch of host operations leaves there.
-/
module

public import proofs.«01_k».proof.Proof.Gen.KernelIdeal.Frame

@[expose] public section

set_option maxRecDepth 16384

noncomputable section

namespace Cert.Spd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters the kernel's program terminates without a fault, its result array holds the
    contents the last stretch leaves in it, and its argument arrays are as launched. -/
theorem run : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c => ⟨h c _ (mem_uc main_v69 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c)⟩)

end Cert.Spd

end
-- ==== Proof.MatFun.lean ====
/-
  The polynomial matrix functions of this problem, over any carrier of matrices `α` with scalars `β` attached to them
  (one scalar per matrix): square root and inverse square root by Newton-Schulz steps, logarithm, exponential. They are
  written once, over a record of operations (`Ops`), and a map that respects the operations (`Hom`) respects each of the
  functions. Packed block-diagonal tensors, batched host tensors, families of matrices and single matrices are all
  carriers, so that one definition speaks about the kernel, the reference and the mathematics.
-/
module

public import Idealize.ShloMosaic.PureOps.Ideal.Laws

@[expose] public section

noncomputable section

namespace Cert.Spd

open Idealize.ShloMosaic

/-- The real number of a 32-bit float pattern. -/
abbrev lit (b : BitVec 32) : EReal := Scalar.ofBits (F := Ideal) .f32 b

/-- Matrices `α`, per-matrix scalars `β` and outer scalars `δ`: the operations the matrix functions are made of. -/
structure Ops (α β δ : Type) where
  mul : α → α → α
  add : α → α → α
  sub : α → α → α
  /-- the identity matrix -/
  one : α
  /-- a constant times the identity matrix -/
  so : EReal → α
  /-- a constant times a matrix -/
  sm : EReal → α → α
  /-- a matrix times a constant -/
  ms : α → EReal → α
  /-- a matrix times its scalar -/
  mb : α → β → α
  /-- an outer scalar times a matrix -/
  da : δ → α → α
  /-- an outer scalar times a scalar -/
  db : δ → β → β
  /-- the Frobenius norm -/
  nrm : α → β
  /-- the mean of the diagonal -/
  mtr : α → β
  badd : β → β → β
  /-- one over a scalar -/
  inv : β → β
  bsqrt : β → β
  blog : β → β
  bexp : β → β

namespace Ops

variable {α β δ : Type} (o : Ops α β δ)

/-- `b P + a 1`, the factor of one Newton-Schulz step. -/
def nsT (a b : BitVec 32) (P : α) : α := o.add (o.sm (lit b) P) (o.so (lit a))

/-- The next `P`: `(T T) P`. -/
def nsP (T P : α) : α := o.mul (o.mul T T) P

/-- `(1 + E)^(-1/2)` to third order, at `E = P - 1`. -/
def invRoot (P : α) : α :=
  have E := o.sub P o.one
  have H := o.add (o.sm (lit 0xBEA00000#32) E) (o.so (lit 0x3EC00000#32))
  have H := o.add (o.mul H E) (o.so (lit 0xBF000000#32))
  o.add (o.mul H E) (o.so (lit 0x3F800000#32))

/-- The first square root: four steps. -/
def sqrt4 (S : α) : α :=
  have T0 := o.nsT 0x40A91EE4#32 0xC09A1AB5#32 S
  have P1 := o.nsP T0 S
  have T1 := o.nsT 0x3FC639A5#32 0xBE899F60#32 P1
  have P2 := o.nsP T1 P1
  have T2 := o.nsT 0x3FC1DCA9#32 0xBEDB5459#32 P2
  have P3 := o.nsP T2 P2
  have T3 := o.nsT 0x3FC02246#32 0xBEFD5350#32 P3
  have P4 := o.nsP T3 P3
  o.mul (o.mul (o.mul (o.mul (o.mul S T0) T1) T2) T3) (o.invRoot P4)

/-- The second square root: two steps. -/
def sqrt2 (S : α) : α :=
  have T0 := o.nsT 0x4033A7D9#32 0xC001631B#32 S
  have P1 := o.nsP T0 S
  have T1 := o.nsT 0x3FC0E44F#32 0xBEEE4B7C#32 P1
  have P2 := o.nsP T1 P1
  o.mul (o.mul (o.mul S T0) T1) (o.invRoot P2)

/-- The logarithm of `M / |M|`: two square roots, then a polynomial of degree 12 in `W = S / m - 1`. -/
def logm (M : α) : α :=
  have S := o.sqrt2 (o.sqrt4 (o.mb M (o.inv (o.nrm M))))
  have W := o.sub (o.ms S (lit 0x3FC51068#32)) o.one
  have W2 := o.mul W W
  have W3 := o.mul W2 W
  have W4 := o.mul W2 W2
  have A := o.add (o.add (o.add (o.add (o.so (lit 0xBE0CE820#32)) (o.sm (lit 0x3D737A6A#32) W))
    (o.sm (lit 0xBD212731#32) W2)) (o.sm (lit 0x3E5D7D4E#32) W3)) (o.sm (lit 0xBE5C5F90#32) W4)
  have B := o.add (o.add (o.add (o.so (lit 0xBE800817#32)) (o.sm (lit 0x3E4BFCF6#32) W))
    (o.sm (lit 0xBE2957C8#32) W2)) (o.sm (lit 0x3E1BDDE1#32) W3)
  have C := o.add (o.add (o.add (o.so (lit 0xB1536959#32)) (o.sm (lit 0x3F7FFFFB#32) W))
    (o.sm (lit 0xBEFFFFDC#32) W2)) (o.sm (lit 0x3EAAAE5B#32) W3)
  have A := o.add (o.mul A W4) B
  have A := o.add (o.mul A W4) C
  o.sm (lit 0x40800000#32) (o.add A (o.so (Ideal.log (lit 0x3F2647EB#32))))

/-- The exponential: the Taylor polynomial of degree 6 at `A / 16`, squared four times. -/
def expm (A : α) : α :=
  have A := o.ms A (lit 0x3D800000#32)
  have U := o.mul A A
  have V := o.mul U A
  have lo := o.add (o.add (o.add o.one A) (o.sm (lit 0x3F000000#32) U)) (o.sm (lit 0x3E2AAAAB#32) V)
  have hi := o.add (o.add (o.sm (lit 0x3D2AAAAB#32) A) (o.sm (lit 0x3C088889#32) U)) (o.sm (lit 0x3AB60B61#32) V)
  have E := o.add (o.mul V hi) lo
  have E := o.mul E E
  have E := o.mul E E
  have E := o.mul E E
  o.mul E E

/-- The five factors of the long Newton-Schulz chain at `P` and the last `P`. -/
structure Chain (α : Type) where
  (T0 T1 T2 T3 T4 H : α)

def chain (P : α) : Chain α :=
  have T0 := o.nsT 0x40BEE81F#32 0xC0B17867#32 P
  have P1 := o.nsP T0 P
  have T1 := o.nsT 0x3FC767DF#32 0xBE68F0EF#32 P1
  have P2 := o.nsP T1 P1
  have T2 := o.nsT 0x3FC2CADE#32 0xBEC96B79#32 P2
  have P3 := o.nsP T2 P2
  have T3 := o.nsT 0x3FC050CA#32 0xBEF9B47B#32 P3
  have P4 := o.nsP T3 P3
  have T4 := o.nsT 0x3FC000E9#32 0xBEFFEDCA#32 P4
  have P5 := o.nsP T4 P4
  ⟨T0, T1, T2, T3, T4, o.invRoot P5⟩

/-- A matrix over its norm. -/
def unit (A : α) : α := o.mb A (o.inv (o.nrm A))

/-- The square root of `A`. -/
def rootOf (A : α) : α :=
  have P := o.unit A
  have k := o.chain P
  o.mb (o.mul (o.mul (o.mul (o.mul (o.mul (o.mul P k.T0) k.T1) k.T2) k.T3) k.T4) k.H) (o.bsqrt (o.nrm A))

/-- The inverse square root of `A`, its product started at the factor `R` of the first step. -/
def invRootFrom (R : α → α) (A : α) : α :=
  have P := o.unit A
  have k := o.chain P
  o.mb (o.mul (o.mul (o.mul (o.mul (o.mul (R k.T0) k.T1) k.T2) k.T3) k.T4) k.H) (o.inv (o.bsqrt (o.nrm A)))

/-- The logarithm of `M`. -/
def logOf (M : α) : α := o.add (o.logm M) (o.mb o.one (o.blog (o.nrm M)))

/-- `exp (s (L + log b))` between two copies of `V`, the mean of the diagonal of `L` split off. -/
def powFrom (s : δ) (V L : α) (b : β) : α :=
  have mu := o.mtr L
  have f := o.bexp (o.db s (o.badd mu (o.blog b)))
  have E := o.expm (o.da s (o.sub L (o.mb o.one mu)))
  o.mb (o.mul (o.mul V E) V) f

/-- `exp (s log M)` between two copies of `V`. -/
def powOf (s : δ) (V M : α) : α := o.powFrom s V (o.logm M) (o.nrm M)

end Ops

/-- A map of matrices `φ`, of scalars `ψ` and of outer scalars `χ` that respects every operation. -/
structure Hom {α β δ α' β' δ' : Type} (o : Ops α β δ) (o' : Ops α' β' δ') (φ : α → α') (ψ : β → β') (χ : δ → δ') : Prop where
  mul : ∀ x y, o'.mul (φ x) (φ y) = φ (o.mul x y)
  add : ∀ x y, o'.add (φ x) (φ y) = φ (o.add x y)
  sub : ∀ x y, o'.sub (φ x) (φ y) = φ (o.sub x y)
  one : o'.one = φ o.one
  so : ∀ c, o'.so c = φ (o.so c)
  sm : ∀ c x, o'.sm c (φ x) = φ (o.sm c x)
  ms : ∀ x c, o'.ms (φ x) c = φ (o.ms x c)
  mb : ∀ x b, o'.mb (φ x) (ψ b) = φ (o.mb x b)
  da : ∀ d x, o'.da (χ d) (φ x) = φ (o.da d x)
  db : ∀ d b, o'.db (χ d) (ψ b) = ψ (o.db d b)
  nrm : ∀ x, o'.nrm (φ x) = ψ (o.nrm x)
  mtr : ∀ x, o'.mtr (φ x) = ψ (o.mtr x)
  badd : ∀ a b, o'.badd (ψ a) (ψ b) = ψ (o.badd a b)
  inv : ∀ b, o'.inv (ψ b) = ψ (o.inv b)
  bsqrt : ∀ b, o'.bsqrt (ψ b) = ψ (o.bsqrt b)
  blog : ∀ b, o'.blog (ψ b) = ψ (o.blog b)
  bexp : ∀ b, o'.bexp (ψ b) = ψ (o.bexp b)

namespace Hom

variable {α β δ α' β' δ' : Type} {o : Ops α β δ} {o' : Ops α' β' δ'} {φ : α → α'} {ψ : β → β'} {χ : δ → δ'}
  (h : Hom o o' φ ψ χ)
include h

theorem nsT (a b : BitVec 32) (P : α) : o'.nsT a b (φ P) = φ (o.nsT a b P) := by
  simp only [Ops.nsT, h.sm, h.so, h.add]
theorem nsP (T P : α) : o'.nsP (φ T) (φ P) = φ (o.nsP T P) := by simp only [Ops.nsP, h.mul]
theorem invRoot (P : α) : o'.invRoot (φ P) = φ (o.invRoot P) := by
  simp only [Ops.invRoot, h.sm, h.so, h.add, h.sub, h.one, h.mul]
theorem sqrt4 (S : α) : o'.sqrt4 (φ S) = φ (o.sqrt4 S) := by
  simp only [Ops.sqrt4, h.nsT, h.nsP, h.invRoot, h.mul]
theorem sqrt2 (S : α) : o'.sqrt2 (φ S) = φ (o.sqrt2 S) := by
  simp only [Ops.sqrt2, h.nsT, h.nsP, h.invRoot, h.mul]
theorem logm (M : α) : o'.logm (φ M) = φ (o.logm M) := by
  simp only [Ops.logm, h.sqrt2, h.sqrt4, h.mb, h.inv, h.nrm, h.sub, h.ms, h.one, h.mul, h.add, h.so, h.sm]
theorem expm (A : α) : o'.expm (φ A) = φ (o.expm A) := by
  simp only [Ops.expm, h.ms, h.one, h.mul, h.add, h.sm]
theorem unit (A : α) : o'.unit (φ A) = φ (o.unit A) := by simp only [Ops.unit, h.mb, h.inv, h.nrm]
theorem rootOf (A : α) : o'.rootOf (φ A) = φ (o.rootOf A) := by
  simp only [Ops.rootOf, Ops.chain, h.unit, h.nsT, h.nsP, h.invRoot, h.mul, h.mb, h.bsqrt, h.nrm]
theorem invRootFrom {R : α → α} {R' : α' → α'} (hR : ∀ x, R' (φ x) = φ (R x)) (A : α) :
    o'.invRootFrom R' (φ A) = φ (o.invRootFrom R A) := by
  simp only [Ops.invRootFrom, Ops.chain, h.unit, h.nsT, h.nsP, h.invRoot, h.mul, h.mb, h.bsqrt, h.inv, h.nrm, hR]
theorem logOf (M : α) : o'.logOf (φ M) = φ (o.logOf M) := by
  simp only [Ops.logOf, h.logm, h.mb, h.one, h.blog, h.nrm, h.add]
theorem powFrom (s : δ) (V L : α) (b : β) : o'.powFrom (χ s) (φ V) (φ L) (ψ b) = φ (o.powFrom s V L b) := by
  simp only [Ops.powFrom, h.mtr, h.bexp, h.db, h.badd, h.blog, h.expm, h.da, h.sub, h.mb, h.one, h.mul]
theorem powOf (s : δ) (V M : α) : o'.powOf (χ s) (φ V) (φ M) = φ (o.powOf s V M) := by
  simp only [Ops.powOf, h.powFrom, h.logm, h.nrm]

end Hom

/-- Families of matrices, one operation at a time at every index. -/
def Ops.pi {α β δ : Type} (ι : Type) (o : Ops α β δ) : Ops (ι → α) (ι → β) (ι → δ) where
  mul x y i := o.mul (x i) (y i)
  add x y i := o.add (x i) (y i)
  sub x y i := o.sub (x i) (y i)
  one _ := o.one
  so c _ := o.so c
  sm c x i := o.sm c (x i)
  ms x c i := o.ms (x i) c
  mb x b i := o.mb (x i) (b i)
  da d x i := o.da (d i) (x i)
  db d b i := o.db (d i) (b i)
  nrm x i := o.nrm (x i)
  mtr x i := o.mtr (x i)
  badd a b i := o.badd (a i) (b i)
  inv b i := o.inv (b i)
  bsqrt b i := o.bsqrt (b i)
  blog b i := o.blog (b i)
  bexp b i := o.bexp (b i)

/-- One member of a family. -/
theorem Ops.pi_hom {α β δ : Type} (ι : Type) (o : Ops α β δ) (i : ι) :
    Hom (Ops.pi ι o) o (fun x => x i) (fun b => b i) (fun d => d i) := by
  constructor <;> intros <;> rfl

/-- Single 32 by 32 matrices of extended reals. -/
abbrev Mat : Type := Fin 32 → Fin 32 → EReal

/-- The operations of 32 by 32 matrices. -/
def matOps : Ops Mat EReal EReal where
  mul x y i j := ∑ k, x i k * y k j
  add x y i j := x i j + y i j
  sub x y i j := x i j - y i j
  one i j := if i = j then 1 else 0
  so c i j := c * if i = j then 1 else 0
  sm c x i j := c * x i j
  ms x c i j := x i j * c
  mb x b i j := x i j * b
  da d x i j := d * x i j
  db d b := d * b
  nrm x := Ideal.sqrt (∑ i, ∑ j, x i j * x i j)
  mtr x := (∑ i, x i i) * lit 0x3D000000#32
  badd a b := a + b
  inv b := Ideal.div (lit 0x3F800000#32) b
  bsqrt := Ideal.sqrt
  blog := Ideal.log
  bexp := Ideal.exp

end Cert.Spd

end
-- ==== Proof.Pack.lean ====
/-
  Several 32 by 32 matrices packed on the diagonal of one square tensor, as the kernel holds them: the packed operations
  on block-diagonal tensors are the single-matrix operations on the blocks (`packHom`).
-/
module

public import proofs.«01_k».proof.Proof.MatFun
public import proofs.«01_k».proof.Proof.Gen.KernelIdeal.Skeleton
public import Idealize.ShloMosaic.Lib.ValueIdx
public import Idealize.ShloMosaic.Lib.Pointwise
public import Idealize.ShloMosaic.Lib.Pipeline.Value

@[expose] public section

noncomputable section

namespace Cert.Spd

open Idealize.ShloMosaic

/-- A square tensor and a column of `N` rows. -/
abbrev sq (N : ℕ) : Shape := ⟨2, ![N, N]⟩
abbrev cl (N : ℕ) : Shape := ⟨2, ![N, 1]⟩
abbrev Sq (N : ℕ) : Type := FVec Ideal (sq N) .f32
abbrev Cl (N : ℕ) : Type := FVec Ideal (cl N) .f32

/-- The block-diagonal tensor of a family of matrices. -/
def bd {N : ℕ} (f : ℕ → Mat) : Sq N := fun i =>
  if (i 0).val / 32 = (i 1).val / 32 then
    f ((i 0).val / 32) ⟨(i 0).val % 32, Nat.mod_lt _ (by omega)⟩ ⟨(i 1).val % 32, Nat.mod_lt _ (by omega)⟩
  else 0

/-- The column that holds the block's scalar in every row of the block. -/
def col {N : ℕ} (f : ℕ → EReal) : Cl N := fun i => f ((i 0).val / 32)

/-- Families of matrices with one outer scalar. -/
def Ops.fam {α β δ : Type} (o : Ops α β δ) : Ops (ℕ → α) (ℕ → β) δ where
  mul x y i := o.mul (x i) (y i)
  add x y i := o.add (x i) (y i)
  sub x y i := o.sub (x i) (y i)
  one _ := o.one
  so c _ := o.so c
  sm c x i := o.sm c (x i)
  ms x c i := o.ms (x i) c
  mb x b i := o.mb (x i) (b i)
  da d x i := o.da d (x i)
  db d b i := o.db d (b i)
  nrm x i := o.nrm (x i)
  mtr x i := o.mtr (x i)
  badd a b i := o.badd (a i) (b i)
  inv b i := o.inv (b i)
  bsqrt b i := o.bsqrt (b i)
  blog b i := o.blog (b i)
  bexp b i := o.bexp (b i)

/-- One member of a family. -/
theorem Ops.fam_hom {α β δ : Type} (o : Ops α β δ) (i : ℕ) :
    Hom o.fam o (fun x => x i) (fun b => b i) id := by
  constructor <;> intros <;> rfl

/-- The packed operations: contraction `d` at precision `p`, block totals `tot`, identity `e`. -/
def packOps (N : ℕ) (d : DotDims (sq N) (sq N) (sq N)) (p : Option ContractPrecision) (tot : Sq N → Cl N)
    (hb : (cl N).Broadcasts (sq N)) (e : Sq N) : Ops (Sq N) (Cl N) EReal where
  mul x y := matmul d p x y (constant (sq N) .f32 0x00000000#32)
  add x y := addf x y
  sub x y := subf x y
  one := e
  so c := mulf (broadcast (sq N) c) e
  sm c x := mulf (broadcast (sq N) c) x
  ms x c := mulf x (broadcast (sq N) c)
  mb x b := mulf x (broadcastTo (sq N) b hb)
  da c x := mulf (broadcast (sq N) c) x
  db c b := mulf (broadcast (cl N) c) b
  nrm x := sqrt (tot (mulf x x))
  mtr x := mulf (tot (mulf x e)) (broadcast (cl N) (lit 0x3D000000#32))
  badd a b := addf a b
  inv b := divf (broadcast (cl N) (lit 0x3F800000#32)) b
  bsqrt b := sqrt b
  blog b := log b
  bexp b := exp b

/-- A sum over the rows of one block. -/
theorem sum_block {N n : ℕ} (hN : N = n * 32) (q : ℕ) (hq : q < n) (g : Fin 32 → EReal) :
    (∑ k : Fin N, if k.val / 32 = q then g ⟨k.val % 32, Nat.mod_lt _ (by omega)⟩ else 0) = ∑ r, g r := by
  subst hN
  rw [← finProdFinEquiv.sum_comp, Fintype.sum_prod_type, Finset.sum_eq_single ⟨q, hq⟩]
  · refine Finset.sum_congr rfl fun r _ => ?_
    have h1 : (r.val + 32 * q) / 32 = q := by have := r.isLt; omega
    have h2 : (r.val + 32 * q) % 32 = r.val := by have := r.isLt; omega
    simp [finProdFinEquiv, h1, h2]
  · intro b _ hb
    refine Finset.sum_eq_zero fun r _ => if_neg fun h => hb (Fin.ext ?_)
    have : (r.val + 32 * b.val) / 32 = q := h
    have := r.isLt
    show b.val = q
    omega
  · intro h; exact absurd (Finset.mem_univ _) h

/-- What the packed operations need of the tensors they are made of. -/
structure PackSpec (N n : ℕ) (d : DotDims (sq N) (sq N) (sq N)) (tot : Sq N → Cl N) (e : Sq N) : Prop where
  size : N = n * 32
  dot : ∀ (p : Option ContractPrecision) (x y : Sq N) (r c : Fin N),
    matmul d p x y (constant (sq N) .f32 0x00000000#32) (ix2 r c) = ∑ k : Fin N, x (ix2 r k) * y (ix2 k c)
  tot : ∀ (x : Sq N) (i : Fin N) (z : Fin 1), tot x (ix2 i z) =
    ∑ r : Fin 32, ∑ k : Fin N, x (ix2 ⟨i.val / 32 * 32 + r.val, by have := i.isLt; have := r.isLt; omega⟩ k)
  eye : ∀ (i j : Fin N), e (ix2 i j) = if i = j then 1 else 0

theorem PackSpec.eye_bd {N n : ℕ} {d : DotDims (sq N) (sq N) (sq N)} {tot : Sq N → Cl N} {e : Sq N}
    (h : PackSpec N n d tot e) : e = bd matOps.fam.one := by
  funext j
  obtain ⟨r, c, rfl⟩ : ∃ r c, j = ix2 r c := ⟨_, _, eq_ix2 j⟩
  rw [h.eye]
  simp only [bd, Ops.fam, matOps, Fin.mk.injEq, ix2_0, ix2_1]
  by_cases hrc : r = c
  · subst hrc; simp
  · have hv : r.val ≠ c.val := fun e => hrc (Fin.ext e)
    rw [if_neg hrc]
    split
    · rw [if_neg (by omega)]
    · rfl

/-- The packed operations on block-diagonal tensors are the operations on the blocks. -/
theorem packHom {N n : ℕ} {d : DotDims (sq N) (sq N) (sq N)} {tot : Sq N → Cl N} {e : Sq N}
    (h : PackSpec N n d tot e) (p : Option ContractPrecision) (hb : (cl N).Broadcasts (sq N)) :
    Hom matOps.fam (packOps N d p tot hb e) (bd (N := N)) (col (N := N)) id := by
  have hlt : ∀ i : Fin N, i.val / 32 < n := fun i => by have := i.isLt; have := h.size; omega
  have hbc : ∀ (b : Cl N) (r c : Fin N), broadcastTo (sq N) b hb (ix2 r c) = b (ix2 r 0) := by
    intro b r c
    refine broadcastTo_apply _ _ _ _ fun a => ?_
    match a with
    | ⟨0, _⟩ =>
      show r.val = if N = 1 then 0 else r.val
      rw [if_neg (by have := h.size; omega)]
    | ⟨1, _⟩ => rfl
  have hrow : ∀ (i : Fin N) (r : Fin 32), (i.val / 32 * 32 + r.val) / 32 = i.val / 32 := fun i r => by
    have := r.isLt; omega
  have hrow' : ∀ (i : Fin N) (r : Fin 32), (i.val / 32 * 32 + r.val) % 32 = r.val := fun i r => by
    have := r.isLt; omega
  constructor
  case mul =>
    intro x y
    funext j
    obtain ⟨r, c, rfl⟩ : ∃ r c, j = ix2 r c := ⟨_, _, eq_ix2 j⟩
    refine (h.dot p _ _ r c).trans ?_
    have : ∀ k : Fin N, bd x (ix2 r k) * bd y (ix2 k c) =
        if k.val / 32 = r.val / 32 then
          x (r.val / 32) ⟨r.val % 32, Nat.mod_lt _ (by omega)⟩ ⟨k.val % 32, Nat.mod_lt _ (by omega)⟩ *
            (if r.val / 32 = c.val / 32 then
              y (r.val / 32) ⟨k.val % 32, Nat.mod_lt _ (by omega)⟩ ⟨c.val % 32, Nat.mod_lt _ (by omega)⟩ else 0)
        else 0 := by
      intro k
      simp only [bd, ix2_0, ix2_1]
      by_cases h1 : k.val / 32 = r.val / 32
      · simp [h1]
      · have h2 : ¬ r.val / 32 = k.val / 32 := fun e => h1 e.symm
        simp [h1, h2]
    rw [Finset.sum_congr rfl fun k _ => this k, sum_block h.size _ (hlt r) (fun k =>
      x (r.val / 32) ⟨r.val % 32, Nat.mod_lt _ (by omega)⟩ k *
            (if r.val / 32 = c.val / 32 then y (r.val / 32) k ⟨c.val % 32, Nat.mod_lt _ (by omega)⟩ else 0))]
    simp only [bd, ix2_0, ix2_1, Ops.fam, matOps]
    by_cases h1 : r.val / 32 = c.val / 32 <;> simp [h1]
  case one => exact h.eye_bd
  case nrm =>
    intro x
    funext j
    obtain ⟨r, c, rfl⟩ : ∃ r c, j = ix2 r c := ⟨_, _, eq_ix2 j⟩
    refine congrArg Ideal.sqrt ((h.tot _ r c).trans ?_)
    refine Finset.sum_congr rfl fun a _ => ?_
    rw [ix2_0, ← sum_block h.size _ (hlt r) (fun k => x (r.val / 32) a k * x (r.val / 32) a k)]
    refine Finset.sum_congr rfl fun k _ => ?_
    show bd x _ * bd x _ = _
    simp only [bd, ix2_0, ix2_1, hrow, hrow', Fin.eta]
    by_cases h1 : k.val / 32 = r.val / 32
    · simp [h1]
    · rw [if_neg (fun e => h1 e.symm), if_neg h1, zero_mul]
  case mtr =>
    intro x
    funext j
    obtain ⟨r, c, rfl⟩ : ∃ r c, j = ix2 r c := ⟨_, _, eq_ix2 j⟩
    refine congrArg (· * lit 0x3D000000#32) ((h.tot _ r c).trans ?_)
    refine Finset.sum_congr rfl fun a _ => ?_
    rw [ix2_0]
    have : x (r.val / 32) a a = ∑ k : Fin 32, x (r.val / 32) a k * if a = k then 1 else 0 := by simp
    rw [this, ← sum_block h.size _ (hlt r) (fun k => x (r.val / 32) a k * if a = k then 1 else 0)]
    refine Finset.sum_congr rfl fun k _ => ?_
    refine (congrArg (bd x _ * ·) (congrFun h.eye_bd _)).trans ?_
    simp only [bd, ix2_0, ix2_1, hrow, hrow', Fin.eta, Ops.fam, matOps]
    by_cases h1 : k.val / 32 = r.val / 32
    · simp [h1]
    · rw [if_neg (fun e => h1 e.symm), if_neg h1, zero_mul]
  case mb =>
    intro x b
    funext j
    obtain ⟨r, c, rfl⟩ : ∃ r c, j = ix2 r c := ⟨_, _, eq_ix2 j⟩
    show bd x _ * broadcastTo _ (col b) hb _ = _
    rw [hbc]
    simp only [bd, col, Ops.fam, matOps]
    split <;> simp
  case so =>
    intro c
    funext j
    show c * e j = _
    rw [h.eye_bd]
    simp only [bd, Ops.fam, matOps]
    split <;> simp
  case add => intro x y; funext j; show bd x j + bd y j = _; simp only [bd, Ops.fam, matOps]; split <;> simp
  case sub => intro x y; funext j; show bd x j - bd y j = _; simp only [bd, Ops.fam, matOps]; split <;> simp
  case sm => intro c x; funext j; show c * bd x j = _; simp only [bd, Ops.fam, matOps]; split <;> simp
  case da => intro c x; funext j; show c * bd x j = _; simp only [bd, Ops.fam, matOps, id]; split <;> simp
  case ms => intro x c; funext j; show bd x j * c = _; simp only [bd, Ops.fam, matOps]; split <;> simp
  all_goals intros; rfl

/-- The totals of the four blocks of a packed tensor of 128 rows, each held in every row of its block. -/
def tot128 (x : Sq 128) : Cl 128 :=
  have v32 := multiReduction .add [1] KernelIdeal.S128 x 0x00000000#32 KernelIdeal.Gen.reduces_S128x128_S128 (.inl rfl) rfl
  have v33 := shapeCast KernelIdeal.S128x1 v32 KernelIdeal.Gen.shapeCasts_S128_S128x1
  have v34 := shapeCast KernelIdeal.S4x32x1 v33 KernelIdeal.Gen.shapeCasts_S128x1_S4x32x1
  have v35 := multiReduction .add [1] KernelIdeal.S4x1 v34 0x00000000#32 KernelIdeal.Gen.reduces_S4x32x1_S4x1 (.inl rfl) rfl
  have v36 := shapeCast KernelIdeal.S4x1x1 v35 KernelIdeal.Gen.shapeCasts_S4x1_S4x1x1
  have v37 := shapeCast KernelIdeal.S4x1x1 v36 KernelIdeal.Gen.shapeCasts_S4x1x1_S4x1x1
  have v38 := broadcastTo KernelIdeal.S4x32x1 v37 KernelIdeal.Gen.broadcasts_S4x1x1_S4x32x1
  shapeCast KernelIdeal.S128x1 v38 KernelIdeal.Gen.shapeCasts_S4x32x1_S128x1

/-- The same of the eight blocks of 256 rows. -/
def tot256 (x : Sq 256) : Cl 256 :=
  have v32 := multiReduction .add [1] KernelIdeal.S256 x 0x00000000#32 KernelIdeal.Gen.reduces_S256x256_S256 (.inl rfl) rfl
  have v33 := shapeCast KernelIdeal.S256x1 v32 KernelIdeal.Gen.shapeCasts_S256_S256x1
  have v34 := shapeCast KernelIdeal.S8x32x1 v33 KernelIdeal.Gen.shapeCasts_S256x1_S8x32x1
  have v35 := multiReduction .add [1] KernelIdeal.S8x1 v34 0x00000000#32 KernelIdeal.Gen.reduces_S8x32x1_S8x1 (.inl rfl) rfl
  have v36 := shapeCast KernelIdeal.S8x1x1 v35 KernelIdeal.Gen.shapeCasts_S8x1_S8x1x1
  have v37 := shapeCast KernelIdeal.S8x1x1 v36 KernelIdeal.Gen.shapeCasts_S8x1x1_S8x1x1
  have v38 := broadcastTo KernelIdeal.S8x32x1 v37 KernelIdeal.Gen.broadcasts_S8x1x1_S8x32x1
  shapeCast KernelIdeal.S256x1 v38 KernelIdeal.Gen.shapeCasts_S8x32x1_S256x1

/-- The identity tensors, as the kernel makes them from the row and the column numbers. -/
abbrev eye128 : Sq 128 := KernelIdeal.Gen.k1_pay3 (F := Ideal)
abbrev eye256 : Sq 256 := KernelIdeal.Gen.k4_pay2 (F := Ideal)

/-- The word of the diagonal: one where the two numbers agree, zero elsewhere. -/
theorem eye_word {N : ℕ} {i j : Fin N} (hN : N ≤ 256) :
    Scalar.select (IntOp.cmpi .eq (BitVec.ofNat 32 i.val) (BitVec.ofNat 32 j.val)) (1 : EReal) 0 = if i = j then 1 else 0 := by
  have h : (BitVec.ofNat 32 i.val == BitVec.ofNat 32 j.val) = decide (i = j) := by
    by_cases h : i = j
    · subst h; simp
    · have hv : i.val ≠ j.val := fun e => h (Fin.ext e)
      have : BitVec.ofNat 32 i.val ≠ BitVec.ofNat 32 j.val := by
        intro e
        have e := congrArg BitVec.toNat e
        simp only [BitVec.toNat_ofNat] at e
        have := i.isLt; have := j.isLt
        omega
      simp [h, this]
  show Scalar.select (BitVec.ofBool (BitVec.ofNat 32 i.val == BitVec.ofNat 32 j.val)) (1 : EReal) 0 = _
  rw [h]
  by_cases h : i = j <;> simp [h, Scalar.select]

theorem spec128 : PackSpec 128 4 KernelIdeal.dot_S128x128_S128x128_S128x128_1_0_0_1_n_n tot128 eye128 where
  size := rfl
  dot p x y r c := by
    simp only [pointwise, zero_add]
  tot x i z := by
    simp only [pointwise, tot128]
    rfl
  eye i j := by
    simp only [pointwise, eye128, KernelIdeal.Gen.k1_pay3]
    simp only [List.foldl_cons, List.foldl_nil, Nat.zero_mul, Nat.zero_add]
    exact eye_word (N := 128) (i := i) (j := j) (by omega)

theorem spec256 : PackSpec 256 8 KernelIdeal.dot_S256x256_S256x256_S256x256_1_0_0_1_n_n tot256 eye256 where
  size := rfl
  dot p x y r c := by
    simp only [pointwise, zero_add]
  tot x i z := by
    simp only [pointwise, tot256]
    rfl
  eye i j := by
    simp only [pointwise, eye256, KernelIdeal.Gen.k4_pay2]
    simp only [List.foldl_cons, List.foldl_nil, Nat.zero_mul, Nat.zero_add]
    exact eye_word (N := 256) (i := i) (j := j) (by omega)

end Cert.Spd

end
-- ==== Proof.Geo.lean ====
/-
  The scratch as the kernel fills it, zeros first and then one 32 by 32 block after another down the diagonal, reads as the
  block-diagonal tensor of the blocks (`DiagInv`).
-/
module

public import proofs.«01_k».proof.Proof.Pack
public import Idealize.ShloMosaic.Lib.Pipeline.ReadBack
public import Idealize.ShloMosaic.Lib.Exec.Geometry
public import Idealize.ShloMosaic.Lib.Pipeline.ValueKit.Tiles

@[expose] public section

noncomputable section

namespace Cert.Spd

open Idealize.ShloMosaic

/-- After the first `k` blocks of `f`: the pieces read at the square `e` of the scratch. -/
def DiagInv {N : ℕ} {s : Shape} (e : Fin N → Fin N → s.Idx) (f : ℕ → Mat) (k : ℕ) (L : List (View.Piece (Elt Ideal) s .f32)) : Prop :=
  ∀ r c : Fin N, View.canon L (e r c) =
    if r.val / 32 = c.val / 32 ∧ r.val / 32 < k then
      f (r.val / 32) ⟨r.val % 32, Nat.mod_lt _ (by omega)⟩ ⟨c.val % 32, Nat.mod_lt _ (by omega)⟩
    else (0 : EReal)

section
variable {N : ℕ} {s : Shape} {e : Fin N → Fin N → s.Idx} {f : ℕ → Mat} {k : ℕ} {L : List (View.Piece (Elt Ideal) s .f32)}

/-- Before the first block: the zeros. -/
theorem DiagInv.fill (R : Rect s) (w : R.shape.Idx → EReal) (h : ∀ r c, ∃ x, R.emb x = e r c ∧ w x = 0) :
    DiagInv e f 0 ((⟨R, w⟩ : View.Piece (Elt Ideal) s .f32) :: L) := by
  intro r c
  obtain ⟨x, hx, hw⟩ := h r c
  rw [← hx, if_neg (by omega)]
  exact (View.canon_cons_emb (Val := Elt Ideal) R w L x).trans hw

/-- One more block. -/
theorem DiagInv.step (R : Rect s) (w : R.shape.Idx → EReal) (z : Fin 32 → Fin 32 → R.shape.Idx) (hk : k * 32 + 32 ≤ N)
    (hz : ∀ a b : Fin 32, R.emb (z a b) = e ⟨k * 32 + a.val, by omega⟩ ⟨k * 32 + b.val, by omega⟩)
    (hw : ∀ a b, w (z a b) = f k a b) (hout : ∀ r c, e r c ∈ R.set → r.val / 32 = k ∧ c.val / 32 = k)
    (h : DiagInv e f k L) : DiagInv e f (k + 1) ((⟨R, w⟩ : View.Piece (Elt Ideal) s .f32) :: L) := by
  intro r c
  by_cases hin : r.val / 32 = k ∧ c.val / 32 = k
  · have er : r = ⟨k * 32 + r.val % 32, by omega⟩ := Fin.ext (by show r.val = k * 32 + r.val % 32; omega)
    have ec : c = ⟨k * 32 + c.val % 32, by omega⟩ := Fin.ext (by show c.val = k * 32 + c.val % 32; omega)
    have hx : R.emb (z ⟨r.val % 32, Nat.mod_lt _ (by omega)⟩ ⟨c.val % 32, Nat.mod_lt _ (by omega)⟩) = e r c := by
      rw [hz, ← er, ← ec]
    rw [← hx, if_pos (by omega), hin.1]
    exact (View.canon_cons_emb (Val := Elt Ideal) R w L _).trans (hw _ _)
  · have hn : e r c ∉ R.set := fun hm => hin (hout r c hm)
    refine (View.canon_cons_of_not_mem (Val := Elt Ideal) ⟨R, w⟩ L hn).trans ((h r c).trans ?_)
    by_cases h1 : r.val / 32 = c.val / 32 ∧ r.val / 32 < k
    · rw [if_pos h1, if_pos (by omega)]
    · rw [if_neg h1, if_neg (by omega)]

/-- All blocks: the block-diagonal tensor. -/
theorem DiagInv.eq {n : ℕ} (hN : N = n * 32) (h : DiagInv e f n L) (r c : Fin N) :
    View.canon L (e r c) = bd f (ix2 r c) := by
  rw [h r c]
  have hr : r.val / 32 < n := by omega
  by_cases hd : r.val / 32 = c.val / 32
  · exact (if_pos ⟨hd, hr⟩).trans (if_pos hd).symm
  · exact (if_neg fun h => hd h.1).trans (if_neg hd).symm

end

/-- A block stored into a square scratch. -/
theorem DiagInv.step2 {N : ℕ} {f : ℕ → Mat} {k : ℕ} {L : List (View.Piece (Elt Ideal) (sq N) .f32)}
    {off : Fin 2 → ℕ} {inb : ∀ a, off a + (![32, 32] : Fin 2 → ℕ) a ≤ (sq N).size a}
    {w : (⟨2, ![32, 32]⟩ : Shape).Idx → EReal} (hw : ∀ a b, w (ix2 a b) = f k a b)
    (h : DiagInv ix2 f k L) (hN : k * 32 + 32 ≤ N) (h0 : off 0 = k * 32) (h1 : off 1 = k * 32) :
    DiagInv ix2 f (k + 1) ((⟨Rect.unit (s := sq N) off ![32, 32] inb, w⟩ : View.Piece (Elt Ideal) (sq N) .f32) :: L) := by
  refine DiagInv.step (Rect.unit (s := sq N) off ![32, 32] inb) w (fun a b => ix2 (n0 := 32) (n1 := 32) a b) hN (fun a b => ?_) hw (fun r c hm => ?_) h
  · funext x
    refine Fin.ext ?_
    match x with
    | ⟨0, _⟩ => show off 0 + 1 * a.val = k * 32 + a.val; omega
    | ⟨1, _⟩ => show off 1 + 1 * b.val = k * 32 + b.val; omega
  · rw [Rect.mem_set_unit] at hm
    have a0 : off 0 ≤ r.val ∧ r.val < off 0 + 32 := hm 0
    have a1 : off 1 ≤ c.val ∧ c.val < off 1 + 32 := hm 1
    omega

/-- The zeros of a square scratch. -/
theorem DiagInv.fill2 {N : ℕ} {f : ℕ → Mat} {L : List (View.Piece (Elt Ideal) (sq N) .f32)}
    {off : Fin 2 → ℕ} {inb : ∀ a, off a + (![N, N] : Fin 2 → ℕ) a ≤ (sq N).size a}
    {w : (sq N).Idx → EReal} (hw : ∀ a b, w (ix2 a b) = 0) (h0 : off 0 = 0) (h1 : off 1 = 0) :
    DiagInv ix2 f 0 ((⟨Rect.unit (s := sq N) off ![N, N] inb, w⟩ : View.Piece (Elt Ideal) (sq N) .f32) :: L) := by
  refine DiagInv.fill (Rect.unit (s := sq N) off ![N, N] inb) w fun r c => ⟨ix2 (n0 := N) (n1 := N) r c, ?_, hw r c⟩
  funext x
  refine Fin.ext ?_
  match x with
  | ⟨0, _⟩ => show off 0 + 1 * r.val = r.val; omega
  | ⟨1, _⟩ => show off 1 + 1 * c.val = c.val; omega

/-- The load of the whole square scratch. -/
theorem DiagInv.read2 {N n : ℕ} {f : ℕ → Mat} {L : List (View.Piece (Elt Ideal) (sq N) .f32)} {sig : RefSig} {κ : Kind} {sp : Space}
    (v : View sig κ sp (sq N) .f32) {off : Fin 2 → ℕ} {inb : ∀ a, off a + (![N, N] : Fin 2 → ℕ) a ≤ (sq N).size a}
    (h : DiagInv ix2 f n L) (hN : N = n * 32) (h0 : off 0 = 0) (h1 : off 1 = 0) :
    v.readCov L (Rect.unit (s := sq N) off ![N, N] inb).toLoadRect = bd f := by
  rw [View.readCov_eq_canon']
  funext j
  obtain ⟨r, c, rfl⟩ : ∃ r c, j = ix2 r c := ⟨_, _, eq_ix2 j⟩
  refine Eq.trans (congrArg (View.canon L) ?_) (h.eq hN r c)
  funext x
  refine Fin.ext ?_
  match x with
  | ⟨0, _⟩ => show off 0 + 1 * r.val = r.val; omega
  | ⟨1, _⟩ => show off 1 + 1 * c.val = c.val; omega

/-- A square tensor with a leading unit axis. -/
def up {N : ℕ} (X : Sq N) : (⟨3, ![1, N, N]⟩ : Shape).Idx → EReal := fun j => X (ix2 (j 1) (j 2))

/-- A block stored into plane `q` of a scratch of planes. -/
theorem DiagInv.step3 {M N : ℕ} {q : Fin M} {f : ℕ → Mat} {k : ℕ} {L : List (View.Piece (Elt Ideal) ⟨3, ![M, N, N]⟩ .f32)}
    {o3 : Fin 3 → ℕ} {inb3 : ∀ a, o3 a + (![1, N, N] : Fin 3 → ℕ) a ≤ (⟨3, ![M, N, N]⟩ : Shape).size a}
    {off : Fin 2 → ℕ} {inb : ∀ a, off a + (![32, 32] : Fin 2 → ℕ) a ≤ (sq N).size a} {g0 hs hst hR}
    {w : (⟨2, ![32, 32]⟩ : Shape).Idx → EReal} (hw : ∀ a b, w (ix2 a b) = f k a b)
    (h : DiagInv (fun r c => ix3 q r c) f k L) (hN : k * 32 + 32 ≤ N) (hq : o3 0 = q.val) (hr : o3 1 = 0) (hc : o3 2 = 0)
    (h0 : off 0 = k * 32) (h1 : off 1 = k * 32) :
    DiagInv (fun r c => ix3 q r c) f (k + 1) ((⟨(Rect.unit (s := ⟨3, ![M, N, N]⟩) o3 ![1, N, N] inb3).within
      ((Rect.unit (s := sq N) off ![32, 32] inb).consLift ![1, N, N] g0 hs) hst,
      Rect.payAlong (r := Rect.unit (s := sq N) off ![32, 32] inb) hR w⟩ : View.Piece (Elt Ideal) ⟨3, ![M, N, N]⟩ .f32) :: L) := by
  refine DiagInv.step _ _ (fun a b => ix3 (n0 := 1) (n1 := 32) (n2 := 32) 0 a b) hN (fun a b => ?_) (fun a b => ?_) (fun r c hm => ?_) h
  · funext x
    refine Fin.ext ?_
    match x with
    | ⟨0, _⟩ => show o3 0 + 0 + 1 * 0 = q.val; omega
    | ⟨1, _⟩ => show o3 1 + off 0 + 1 * a.val = k * 32 + a.val; omega
    | ⟨2, _⟩ => show o3 2 + off 1 + 1 * b.val = k * 32 + b.val; omega
  · refine Eq.trans ?_ (hw a b)
    refine Rect.payAlong_consLift (Rect.unit (s := sq N) off ![32, 32] inb) ![1, N, N] g0 hs w hR _ (ix2 a b) fun i => ?_
    match i with
    | ⟨0, _⟩ => rfl
    | ⟨1, _⟩ => rfl
  · rw [LoadRect.mem_set] at hm
    obtain ⟨j1, l1, e1⟩ := hm 1
    obtain ⟨j2, l2, e2⟩ := hm 2
    have l1 : j1 < 32 := l1
    have l2 : j2 < 32 := l2
    have e1 : r.val = o3 1 + off 0 + 1 * j1 := e1
    have e2 : c.val = o3 2 + off 1 + 1 * j2 := e2
    omega

/-- The zeros of plane `q`. -/
theorem DiagInv.fill3 {M N : ℕ} {q : Fin M} {f : ℕ → Mat} {L : List (View.Piece (Elt Ideal) ⟨3, ![M, N, N]⟩ .f32)}
    {o3 : Fin 3 → ℕ} {inb3 : ∀ a, o3 a + (![1, N, N] : Fin 3 → ℕ) a ≤ (⟨3, ![M, N, N]⟩ : Shape).size a}
    {w : (⟨3, ![1, N, N]⟩ : Shape).Idx → EReal} (hw : ∀ a b, w (ix3 0 a b) = 0) (hq : o3 0 = q.val) (hr : o3 1 = 0) (hc : o3 2 = 0) :
    DiagInv (fun r c => ix3 q r c) f 0 ((⟨Rect.unit (s := ⟨3, ![M, N, N]⟩) o3 ![1, N, N] inb3, w⟩ :
      View.Piece (Elt Ideal) ⟨3, ![M, N, N]⟩ .f32) :: L) := by
  refine DiagInv.fill (Rect.unit (s := ⟨3, ![M, N, N]⟩) o3 ![1, N, N] inb3) w fun r c =>
    ⟨ix3 (n0 := 1) (n1 := N) (n2 := N) 0 r c, ?_, hw r c⟩
  funext x
  refine Fin.ext ?_
  match x with
  | ⟨0, _⟩ => show o3 0 + 1 * 0 = q.val; omega
  | ⟨1, _⟩ => show o3 1 + 1 * r.val = r.val; omega
  | ⟨2, _⟩ => show o3 2 + 1 * c.val = c.val; omega

/-- The load of plane `q`. -/
theorem DiagInv.read3 {M N n : ℕ} {q : Fin M} {f : ℕ → Mat} {L : List (View.Piece (Elt Ideal) ⟨3, ![M, N, N]⟩ .f32)}
    {sig : RefSig} {κ : Kind} {sp : Space} (v : View sig κ sp ⟨3, ![M, N, N]⟩ .f32)
    {o3 : Fin 3 → ℕ} {inb3 : ∀ a, o3 a + (![1, N, N] : Fin 3 → ℕ) a ≤ (⟨3, ![M, N, N]⟩ : Shape).size a}
    (h : DiagInv (fun r c => ix3 q r c) f n L) (hN : N = n * 32) (hq : o3 0 = q.val) (hr : o3 1 = 0) (hc : o3 2 = 0) :
    v.readCov L (Rect.unit (s := ⟨3, ![M, N, N]⟩) o3 ![1, N, N] inb3).toLoadRect = up (bd f) := by
  rw [View.readCov_eq_canon']
  funext j
  obtain ⟨z, r, c, rfl⟩ : ∃ z r c, j = ix3 z r c := ⟨_, _, _, eq_ix3 j⟩
  refine Eq.trans (congrArg (View.canon L) ?_) (h.eq hN r c)
  funext x
  refine Fin.ext ?_
  match x with
  | ⟨0, _⟩ => show o3 0 + 1 * z.val = q.val; have := z.isLt; omega
  | ⟨1, _⟩ => show o3 1 + 1 * r.val = r.val; omega
  | ⟨2, _⟩ => show o3 2 + 1 * c.val = c.val; omega

/-- Dropping the unit axis again. -/
theorem shapeCast_up {N : ℕ} (X : Sq N) (h : (⟨3, ![1, N, N]⟩ : Shape).ShapeCasts (sq N)) : shapeCast (sq N) (up X) h = X := by
  funext j
  obtain ⟨r, c, rfl⟩ : ∃ r c, j = ix2 r c := ⟨_, _, eq_ix2 j⟩
  refine (shapeCast_apply (up X) h (ix2 r c) (ix3 0 r c) ?_).trans rfl
  simp [Shape.rowMajor_val_three, Shape.rowMajor_val_two]

/-- The pieces below plane `k` of an output of planes, read. -/
def PlaneInv {s : Shape} {n : ℕ} (e : Fin n → Fin 32 → Fin 32 → s.Idx) (G : ℕ → Mat) (k : ℕ)
    (L : List (View.Piece (Elt Ideal) s .f32)) : Prop :=
  ∀ (g : Fin n) (i j : Fin 32), g.val < k → View.canon L (e g i j) = G g i j

theorem PlaneInv.nil {s : Shape} {n : ℕ} (e : Fin n → Fin 32 → Fin 32 → s.Idx) (G : ℕ → Mat) (L) : PlaneInv e G 0 L :=
  fun g _ _ h => absurd h (by omega)

/-- One more plane of a rank-3 output. -/
theorem PlaneInv.step3 {n : ℕ} {G : ℕ → Mat} {k : ℕ} {L : List (View.Piece (Elt Ideal) ⟨3, ![n, 32, 32]⟩ .f32)}
    {o : Fin 3 → ℕ} {inb : ∀ a, o a + (![1, 32, 32] : Fin 3 → ℕ) a ≤ (⟨3, ![n, 32, 32]⟩ : Shape).size a}
    {w : (⟨3, ![1, 32, 32]⟩ : Shape).Idx → EReal} (hw : ∀ i j, w (ix3 0 i j) = G k i j)
    (h : PlaneInv ix3 G k L) (h0 : o 0 = k) (h1 : o 1 = 0) (h2 : o 2 = 0) :
    PlaneInv ix3 G (k + 1) ((⟨Rect.unit (s := ⟨3, ![n, 32, 32]⟩) o ![1, 32, 32] inb, w⟩ :
      View.Piece (Elt Ideal) ⟨3, ![n, 32, 32]⟩ .f32) :: L) := by
  intro g i j hg
  by_cases hk : g.val = k
  · have hx : (Rect.unit (s := ⟨3, ![n, 32, 32]⟩) o ![1, 32, 32] inb).emb (ix3 (n0 := 1) (n1 := 32) (n2 := 32) 0 i j) = ix3 g i j := by
      funext x
      refine Fin.ext ?_
      match x with
      | ⟨0, _⟩ => show o 0 + 1 * 0 = g.val; omega
      | ⟨1, _⟩ => show o 1 + 1 * i.val = i.val; omega
      | ⟨2, _⟩ => show o 2 + 1 * j.val = j.val; omega
    rw [← hx, hk]
    exact (View.canon_cons_emb (Val := Elt Ideal) (Rect.unit (s := ⟨3, ![n, 32, 32]⟩) o ![1, 32, 32] inb) w L _).trans (hw i j)
  · refine (View.canon_cons_of_not_mem (Val := Elt Ideal) ⟨(Rect.unit (s := ⟨3, ![n, 32, 32]⟩) o ![1, 32, 32] inb), w⟩ L fun hm => hk ?_).trans (h g i j (by omega))
    rw [LoadRect.mem_set] at hm
    obtain ⟨j1, l1, e1⟩ := hm 0
    have l1 : j1 < 1 := l1
    have e1 : g.val = o 0 + 1 * j1 := e1
    omega

/-- One more plane of a rank-4 output. -/
theorem PlaneInv.step4 {n : ℕ} {G : ℕ → Mat} {k : ℕ} {L : List (View.Piece (Elt Ideal) ⟨4, ![n, 1, 32, 32]⟩ .f32)}
    {o : Fin 4 → ℕ} {inb : ∀ a, o a + (![1, 1, 32, 32] : Fin 4 → ℕ) a ≤ (⟨4, ![n, 1, 32, 32]⟩ : Shape).size a}
    {w : (⟨4, ![1, 1, 32, 32]⟩ : Shape).Idx → EReal} (hw : ∀ i j, w (ix4 0 0 i j) = G k i j)
    (h : PlaneInv (fun g i j => ix4 g 0 i j) G k L) (h0 : o 0 = k) (h1 : o 1 = 0) (h2 : o 2 = 0) (h3 : o 3 = 0) :
    PlaneInv (fun g i j => ix4 g 0 i j) G (k + 1) ((⟨Rect.unit (s := ⟨4, ![n, 1, 32, 32]⟩) o ![1, 1, 32, 32] inb, w⟩ :
      View.Piece (Elt Ideal) ⟨4, ![n, 1, 32, 32]⟩ .f32) :: L) := by
  intro g i j hg
  by_cases hk : g.val = k
  · have hx : (Rect.unit (s := ⟨4, ![n, 1, 32, 32]⟩) o ![1, 1, 32, 32] inb).emb
        (ix4 (n0 := 1) (n1 := 1) (n2 := 32) (n3 := 32) 0 0 i j) = ix4 g 0 i j := by
      funext x
      refine Fin.ext ?_
      match x with
      | ⟨0, _⟩ => show o 0 + 1 * 0 = g.val; omega
      | ⟨1, _⟩ => show o 1 + 1 * 0 = 0; omega
      | ⟨2, _⟩ => show o 2 + 1 * i.val = i.val; omega
      | ⟨3, _⟩ => show o 3 + 1 * j.val = j.val; omega
    show View.canon _ (ix4 g 0 i j) = _
    rw [← hx, hk]
    exact (View.canon_cons_emb (Val := Elt Ideal) (Rect.unit (s := ⟨4, ![n, 1, 32, 32]⟩) o ![1, 1, 32, 32] inb) w L _).trans (hw i j)
  · refine (View.canon_cons_of_not_mem (Val := Elt Ideal) ⟨(Rect.unit (s := ⟨4, ![n, 1, 32, 32]⟩) o ![1, 1, 32, 32] inb), w⟩ L fun hm => hk ?_).trans (h g i j (by omega))
    rw [LoadRect.mem_set] at hm
    obtain ⟨j1, l1, e1⟩ := hm 0
    have l1 : j1 < 1 := l1
    have e1 : g.val = o 0 + 1 * j1 := e1
    omega

/-- A matrix read from plane `g` of a rank-3 array. -/
theorem ld_plane3 {n : ℕ} (x : (⟨3, ![n, 32, 32]⟩ : Shape).Idx → EReal) (g : Fin n) {o : Fin 3 → ℕ}
    {inb : ∀ a, o a + (![1, 32, 32] : Fin 3 → ℕ) a ≤ (⟨3, ![n, 32, 32]⟩ : Shape).size a}
    (h0 : o 0 = g.val) (h1 : o 1 = 0) (h2 : o 2 = 0) (h : (⟨3, ![1, 32, 32]⟩ : Shape).ShapeCasts (sq 32)) (i j : Fin 32) :
    shapeCast (sq 32) (View.ld (Val := Elt Ideal) (e' := .f32) x (Rect.unit (s := ⟨3, ![n, 32, 32]⟩) o ![1, 32, 32] inb)) h (ix2 i j)
      = x (ix3 g i j) := by
  refine (shapeCast_apply _ h (ix2 i j) (ix3 (n0 := 1) (n1 := 32) (n2 := 32) 0 i j) ?_).trans ?_
  · simp [Shape.rowMajor_val_three, Shape.rowMajor_val_two]
  · refine View.ld_unit_apply_of (Val := Elt Ideal) (e := .f32) x _ _ _ _ _ fun a => ?_
    match a with
    | ⟨0, _⟩ => show g.val = o 0 + 0; omega
    | ⟨1, _⟩ => show i.val = o 1 + i.val; omega
    | ⟨2, _⟩ => show j.val = o 2 + j.val; omega

/-- A matrix read from plane `g` of a rank-4 array. -/
theorem ld_plane4 {n : ℕ} (x : (⟨4, ![n, 1, 32, 32]⟩ : Shape).Idx → EReal) (g : Fin n) {o : Fin 4 → ℕ}
    {inb : ∀ a, o a + (![1, 1, 32, 32] : Fin 4 → ℕ) a ≤ (⟨4, ![n, 1, 32, 32]⟩ : Shape).size a}
    (h0 : o 0 = g.val) (h1 : o 1 = 0) (h2 : o 2 = 0) (h3 : o 3 = 0) (h : (⟨4, ![1, 1, 32, 32]⟩ : Shape).ShapeCasts (sq 32))
    (i j : Fin 32) :
    shapeCast (sq 32) (View.ld (Val := Elt Ideal) (e' := .f32) x (Rect.unit (s := ⟨4, ![n, 1, 32, 32]⟩) o ![1, 1, 32, 32] inb)) h
      (ix2 i j) = x (ix4 g 0 i j) := by
  refine (shapeCast_apply _ h (ix2 i j) (ix4 (n0 := 1) (n1 := 1) (n2 := 32) (n3 := 32) 0 0 i j) ?_).trans ?_
  · simp [Shape.rowMajor_val_four, Shape.rowMajor_val_two]
  · refine View.ld_unit_apply_of (Val := Elt Ideal) (e := .f32) x _ _ _ _ _ fun a => ?_
    match a with
    | ⟨0, _⟩ => show g.val = o 0 + 0; omega
    | ⟨1, _⟩ => show 0 = o 1 + 0; omega
    | ⟨2, _⟩ => show i.val = o 2 + i.val; omega
    | ⟨3, _⟩ => show j.val = o 3 + j.val; omega

/-- Block `k` of a block-diagonal tensor. -/
theorem slice_bd {N : ℕ} (F : ℕ → Mat) (k : ℕ) (hk : k * 32 + 32 ≤ N) {off : Fin 2 → ℕ} (h : (sq N).Slices off (sq 32))
    (h0 : off 0 = k * 32) (h1 : off 1 = k * 32) (i j : Fin 32) :
    extractStridedSlice (sq 32) off (bd (N := N) F) h (ix2 i j) = F k i j := by
  refine (extractStridedSlice_apply off _ h (ix2 i j)
    (ix2 (n0 := N) (n1 := N) ⟨k * 32 + i.val, by omega⟩ ⟨k * 32 + j.val, by omega⟩) fun a => ?_).trans ?_
  · match a with
    | ⟨0, _⟩ => show k * 32 + i.val = off 0 + i.val; omega
    | ⟨1, _⟩ => show k * 32 + j.val = off 1 + j.val; omega
  · have e1 : (k * 32 + i.val) / 32 = k := by omega
    have e2 : (k * 32 + j.val) / 32 = k := by omega
    have e3 : (k * 32 + i.val) % 32 = i.val := by omega
    have e4 : (k * 32 + j.val) % 32 = j.val := by omega
    refine (if_pos (e1.trans e2.symm)).trans ?_
    show F ((k * 32 + i.val) / 32) ⟨(k * 32 + i.val) % 32, _⟩ ⟨(k * 32 + j.val) % 32, _⟩ = F k i j
    simp only [e1, e3, e4]

/-- … with one unit axis in front, -/
theorem cast_up3 (X : Sq 32) (h : (sq 32).ShapeCasts ⟨3, ![1, 32, 32]⟩) (i j : Fin 32) :
    shapeCast ⟨3, ![1, 32, 32]⟩ X h (ix3 0 i j) = X (ix2 i j) := by
  refine shapeCast_apply X h _ (ix2 i j) ?_
  simp [Shape.rowMajor_val_three, Shape.rowMajor_val_two]

/-- … with two. -/
theorem cast_up4 (X : Sq 32) (h : (sq 32).ShapeCasts ⟨4, ![1, 1, 32, 32]⟩) (i j : Fin 32) :
    shapeCast ⟨4, ![1, 1, 32, 32]⟩ X h (ix4 0 0 i j) = X (ix2 i j) := by
  refine shapeCast_apply X h _ (ix2 i j) ?_
  simp [Shape.rowMajor_val_four, Shape.rowMajor_val_two]

/-- What one store of a rank-3 output takes from a block-diagonal tensor. -/
theorem cut3 {N : ℕ} {X : Sq N} {F : ℕ → Mat} (hX : X = bd F) (k : ℕ) (hk : k * 32 + 32 ≤ N) {off : Fin 2 → ℕ}
    (h0 : off 0 = k * 32) (h1 : off 1 = k * 32) (h : (sq N).Slices off (sq 32)) (hc : (sq 32).ShapeCasts ⟨3, ![1, 32, 32]⟩)
    (i j : Fin 32) : shapeCast ⟨3, ![1, 32, 32]⟩ (extractStridedSlice (sq 32) off X h) hc (ix3 0 i j) = F k i j := by
  rw [cast_up3, hX, slice_bd F k hk h h0 h1]

/-- What one store of a rank-4 output takes from a block-diagonal tensor. -/
theorem cut4 {N : ℕ} {X : Sq N} {F : ℕ → Mat} (hX : X = bd F) (k : ℕ) (hk : k * 32 + 32 ≤ N) {off : Fin 2 → ℕ}
    (h0 : off 0 = k * 32) (h1 : off 1 = k * 32) (h : (sq N).Slices off (sq 32)) (hc : (sq 32).ShapeCasts ⟨4, ![1, 1, 32, 32]⟩)
    (i j : Fin 32) : shapeCast ⟨4, ![1, 1, 32, 32]⟩ (extractStridedSlice (sq 32) off X h) hc (ix4 0 0 i j) = F k i j := by
  rw [cast_up4, hX, slice_bd F k hk h h0 h1]

/-- The matrices of a rank-4 array with one channel, by their number. -/
def planes4 {n : ℕ} (x : (⟨4, ![n, 1, 32, 32]⟩ : Shape).Idx → EReal) : ℕ → Mat :=
  fun g i j => if h : g < n then x (ix4 ⟨g, h⟩ 0 i j) else 0

theorem planes4_lt {n : ℕ} (x : (⟨4, ![n, 1, 32, 32]⟩ : Shape).Idx → EReal) (g : Fin n) (i j : Fin 32) :
    planes4 x g.val i j = x (ix4 g 0 i j) := by
  unfold planes4; exact dif_pos g.isLt

/-- The matrices of a rank-3 array, by their number. -/
def planes {n : ℕ} (x : (⟨3, ![n, 32, 32]⟩ : Shape).Idx → EReal) : ℕ → Mat :=
  fun g i j => if h : g < n then x (ix3 ⟨g, h⟩ i j) else 0

theorem planes_lt {n : ℕ} (x : (⟨3, ![n, 32, 32]⟩ : Shape).Idx → EReal) (g : Fin n) (i j : Fin 32) :
    planes x g.val i j = x (ix3 g i j) := by
  unfold planes; exact dif_pos g.isLt

/-- One block stored from plane `g` of a rank-3 input. -/
theorem block3 {n : ℕ} (x : (⟨3, ![n, 32, 32]⟩ : Shape).Idx → EReal) (g : Fin n) {o : Fin 3 → ℕ}
    {inb : ∀ a, o a + (![1, 32, 32] : Fin 3 → ℕ) a ≤ (⟨3, ![n, 32, 32]⟩ : Shape).size a}
    (h0 : o 0 = g.val) (h1 : o 1 = 0) (h2 : o 2 = 0) (h : (⟨3, ![1, 32, 32]⟩ : Shape).ShapeCasts (sq 32))
    (h' : (sq 32).ShapeCasts (sq 32)) (i j : Fin 32) :
    shapeCast (sq 32) (shapeCast (sq 32) (View.ld (Val := Elt Ideal) (e' := .f32) x
      (Rect.unit (s := ⟨3, ![n, 32, 32]⟩) o ![1, 32, 32] inb)) h) h' (ix2 i j) = planes x g.val i j := by
  rw [shapeCast_self, ld_plane3 x g h0 h1 h2 h i j, planes_lt]

/-- One block stored from plane `g` of a rank-4 input. -/
theorem block4 {n : ℕ} (x : (⟨4, ![n, 1, 32, 32]⟩ : Shape).Idx → EReal) (g : Fin n) {o : Fin 4 → ℕ}
    {inb : ∀ a, o a + (![1, 1, 32, 32] : Fin 4 → ℕ) a ≤ (⟨4, ![n, 1, 32, 32]⟩ : Shape).size a}
    (h0 : o 0 = g.val) (h1 : o 1 = 0) (h2 : o 2 = 0) (h3 : o 3 = 0) (h : (⟨4, ![1, 1, 32, 32]⟩ : Shape).ShapeCasts (sq 32))
    (h' : (sq 32).ShapeCasts (sq 32)) (i j : Fin 32) :
    shapeCast (sq 32) (shapeCast (sq 32) (View.ld (Val := Elt Ideal) (e' := .f32) x
      (Rect.unit (s := ⟨4, ![n, 1, 32, 32]⟩) o ![1, 1, 32, 32] inb)) h) h' (ix2 i j) = planes4 x g.val i j := by
  rw [shapeCast_self, ld_plane4 x g h0 h1 h2 h3 h i j, planes4_lt]

/-- Plane `q` of the scratch after its zeros and its eight blocks. -/
theorem scratch8 {f : ℕ → Mat} (q : Fin 4) {sg : RefSig} {κ : Kind} {sp : Space} (v : View sg κ sp ⟨3, ![4, 256, 256]⟩ .f32)
    {o : Fin 3 → ℕ} {i3 : ∀ a, o a + (![1, 256, 256] : Fin 3 → ℕ) a ≤ (⟨3, ![4, 256, 256]⟩ : Shape).size a} {g0 hs hst}
    {j0 j1 j2 j3 j4 j5 j6 j7 hR0 hR1 hR2 hR3 hR4 hR5 hR6 hR7}
    {z : (⟨3, ![1, 256, 256]⟩ : Shape).Idx → EReal} {w0 w1 w2 w3 w4 w5 w6 w7 : (⟨2, ![32, 32]⟩ : Shape).Idx → EReal}
    {L : List (View.Piece (Elt Ideal) ⟨3, ![4, 256, 256]⟩ .f32)}
    (hq : o 0 = q.val) (hr : o 1 = 0) (hc : o 2 = 0) (hz : ∀ a b, z (ix3 0 a b) = 0)
    (h0 : ∀ a b, w0 (ix2 a b) = f 0 a b)    (h1 : ∀ a b, w1 (ix2 a b) = f 1 a b)
    (h2 : ∀ a b, w2 (ix2 a b) = f 2 a b)    (h3 : ∀ a b, w3 (ix2 a b) = f 3 a b)
    (h4 : ∀ a b, w4 (ix2 a b) = f 4 a b)    (h5 : ∀ a b, w5 (ix2 a b) = f 5 a b)
    (h6 : ∀ a b, w6 (ix2 a b) = f 6 a b)    (h7 : ∀ a b, w7 (ix2 a b) = f 7 a b) :
    v.readCov (Val := Elt Ideal) (
        ⟨(Rect.unit (s := ⟨3, ![4, 256, 256]⟩) o ![1, 256, 256] i3).within ((Rect.unit (s := sq 256) ![224, 224] ![32, 32] j7).consLift ![1, 256, 256] g0 hs) hst,
          Rect.payAlong (r := Rect.unit (s := sq 256) ![224, 224] ![32, 32] j7) hR7 w7⟩ ::
        ⟨(Rect.unit (s := ⟨3, ![4, 256, 256]⟩) o ![1, 256, 256] i3).within ((Rect.unit (s := sq 256) ![192, 192] ![32, 32] j6).consLift ![1, 256, 256] g0 hs) hst,
          Rect.payAlong (r := Rect.unit (s := sq 256) ![192, 192] ![32, 32] j6) hR6 w6⟩ ::
        ⟨(Rect.unit (s := ⟨3, ![4, 256, 256]⟩) o ![1, 256, 256] i3).within ((Rect.unit (s := sq 256) ![160, 160] ![32, 32] j5).consLift ![1, 256, 256] g0 hs) hst,
          Rect.payAlong (r := Rect.unit (s := sq 256) ![160, 160] ![32, 32] j5) hR5 w5⟩ ::
        ⟨(Rect.unit (s := ⟨3, ![4, 256, 256]⟩) o ![1, 256, 256] i3).within ((Rect.unit (s := sq 256) ![128, 128] ![32, 32] j4).consLift ![1, 256, 256] g0 hs) hst,
          Rect.payAlong (r := Rect.unit (s := sq 256) ![128, 128] ![32, 32] j4) hR4 w4⟩ ::
        ⟨(Rect.unit (s := ⟨3, ![4, 256, 256]⟩) o ![1, 256, 256] i3).within ((Rect.unit (s := sq 256) ![96, 96] ![32, 32] j3).consLift ![1, 256, 256] g0 hs) hst,
          Rect.payAlong (r := Rect.unit (s := sq 256) ![96, 96] ![32, 32] j3) hR3 w3⟩ ::
        ⟨(Rect.unit (s := ⟨3, ![4, 256, 256]⟩) o ![1, 256, 256] i3).within ((Rect.unit (s := sq 256) ![64, 64] ![32, 32] j2).consLift ![1, 256, 256] g0 hs) hst,
          Rect.payAlong (r := Rect.unit (s := sq 256) ![64, 64] ![32, 32] j2) hR2 w2⟩ ::
        ⟨(Rect.unit (s := ⟨3, ![4, 256, 256]⟩) o ![1, 256, 256] i3).within ((Rect.unit (s := sq 256) ![32, 32] ![32, 32] j1).consLift ![1, 256, 256] g0 hs) hst,
          Rect.payAlong (r := Rect.unit (s := sq 256) ![32, 32] ![32, 32] j1) hR1 w1⟩ ::
        ⟨(Rect.unit (s := ⟨3, ![4, 256, 256]⟩) o ![1, 256, 256] i3).within ((Rect.unit (s := sq 256) ![0, 0] ![32, 32] j0).consLift ![1, 256, 256] g0 hs) hst,
          Rect.payAlong (r := Rect.unit (s := sq 256) ![0, 0] ![32, 32] j0) hR0 w0⟩ ::
        ⟨Rect.unit (s := ⟨3, ![4, 256, 256]⟩) o ![1, 256, 256] i3, z⟩ :: L)
      (Rect.unit (s := ⟨3, ![4, 256, 256]⟩) o ![1, 256, 256] i3).toLoadRect = up (bd f) :=
  DiagInv.read3 (n := 8) v (DiagInv.step3 h7 (DiagInv.step3 h6 (DiagInv.step3 h5 (DiagInv.step3 h4 (DiagInv.step3 h3 (DiagInv.step3 h2 (DiagInv.step3 h1 (DiagInv.step3 h0 (DiagInv.fill3 hz hq hr hc)
      (by omega) hq hr hc rfl rfl)
      (by omega) hq hr hc rfl rfl)
      (by omega) hq hr hc rfl rfl)
      (by omega) hq hr hc rfl rfl)
      (by omega) hq hr hc rfl rfl)
      (by omega) hq hr hc rfl rfl)
      (by omega) hq hr hc rfl rfl)
      (by omega) hq hr hc rfl rfl) rfl hq hr hc

end Cert.Spd

end
-- ==== Proof.Reg1.lean ====
/-
  The first call on four matrices at once: each matrix of the first output is the square root of the batch mean of its
  channel, each of the second the inverse square root.
-/
module

public import proofs.«01_k».proof.Proof.Geo
public import proofs.«01_k».proof.Proof.Gen.KernelIdeal.Frame
public import Idealize.ShloMosaic.Lib.Tactic

@[expose] public section

noncomputable section

namespace Cert.Spd

open Idealize.ShloMosaic Idealize.ShloMosaic.TcCoe Idealize.SL.Sem
open Cert.KernelIdeal Cert.KernelIdeal.Gen

/-- The operations on packed 128 by 128 tensors. -/
abbrev o128 := packOps 128 dot_S128x128_S128x128_S128x128_1_0_0_1_n_n (some .fp32) tot128 broadcasts_S128x1_S128x128 eye128

theorem hom128 : Hom matOps.fam o128 (bd (N := 128)) (col (N := 128)) id := packHom spec128 _ _

/-- The zeros stored first. -/
theorem zeros1 (a b : Fin 128) : (k1_pay4 (F := Ideal)) (ix2 a b) = 0 := by
  simp only [k1_pay4, shapeCast_self, pointwise]

/-- The scratch after the four blocks. -/
theorem scratch1 {sg : RefSig} {κ : Kind} {sp : Space} (v : View sg κ sp S128x128 .f32) (x0 : Vec Ideal S4x32x32 .f32) :
    v.readCov (Val := Elt Ideal)
      [⟨Rect.unit ![96, 96] ![32, 32] inb_S128x128_S32x32_96_96,
          k1_pay8 (View.ld x0 (Rect.unit ![3, 0, 0] ![1, 32, 32] inb_S4x32x32_S1x32x32_3_0_0))⟩,
        ⟨Rect.unit ![64, 64] ![32, 32] inb_S128x128_S32x32_64_64,
          k1_pay7 (View.ld x0 (Rect.unit ![2, 0, 0] ![1, 32, 32] inb_S4x32x32_S1x32x32_2_0_0))⟩,
        ⟨Rect.unit ![32, 32] ![32, 32] inb_S128x128_S32x32_32_32,
          k1_pay6 (View.ld x0 (Rect.unit ![1, 0, 0] ![1, 32, 32] inb_S4x32x32_S1x32x32_1_0_0))⟩,
        ⟨Rect.unit ![0, 0] ![32, 32] inb_S128x128_S32x32_0_0,
          k1_pay5 (View.ld x0 (Rect.unit ![0, 0, 0] ![1, 32, 32] inb_S4x32x32_S1x32x32_0_0_0))⟩,
        ⟨Rect.unit ![0, 0] ![128, 128] inb_S128x128_S128x128_0_0, k1_pay4 (F := Ideal)⟩]
      (Rect.unit ![0, 0] ![128, 128] inb_S128x128_S128x128_0_0).toLoadRect = bd (N := 128) (planes x0) :=
  DiagInv.read2 (n := 4) v (DiagInv.step2 (block3 x0 3 rfl rfl rfl _ _) (DiagInv.step2 (block3 x0 2 rfl rfl rfl _ _)
    (DiagInv.step2 (block3 x0 1 rfl rfl rfl _ _) (DiagInv.step2 (block3 x0 0 rfl rfl rfl _ _)
      (DiagInv.fill2 zeros1 rfl rfl) (by omega) rfl rfl) (by omega) rfl rfl) (by omega) rfl rfl) (by omega) rfl rfl) rfl rfl rfl

set_option maxRecDepth 100000 in
/-- The kernel's square root is the packed one. -/
theorem root1 (X : Sq 128) : k1_pay25 (k1_pay9 X) (k1_pay23 k1_pay3 (k1_pay15 k1_pay3 X) (k1_pay16 k1_pay3 X) (k1_pay17 k1_pay3 X))
    = o128.rootOf X := by rfl

set_option maxRecDepth 100000 in
/-- The kernel's inverse square root is the packed one. -/
theorem iroot1 (X : Sq 128) :
    k1_pay26 (k1_pay9 X) (k1_pay24 k1_pay3 (k1_pay14 k1_pay3 X) (k1_pay15 k1_pay3 X) (k1_pay16 k1_pay3 X))
    = o128.invRootFrom (o128.mul o128.one) X := by rfl

/-- A matrix function of packed matrices is packed. -/
theorem root_bd (f : ℕ → Mat) : o128.rootOf (bd f) = bd fun g => matOps.rootOf (f g) :=
  (hom128.rootOf f).trans (congrArg bd (funext fun g => ((matOps.fam_hom g).rootOf f).symm))

theorem iroot_bd (f : ℕ → Mat) : o128.invRootFrom (o128.mul o128.one) (bd f)
    = bd fun g => matOps.invRootFrom (matOps.mul matOps.one) (f g) :=
  (hom128.invRootFrom (R := matOps.fam.mul matOps.fam.one) (fun x => by rw [hom128.one, hom128.mul]) f).trans
    (congrArg bd (funext fun g => ((matOps.fam_hom g).invRootFrom (R := matOps.fam.mul matOps.fam.one)
      (R' := matOps.mul matOps.one) (fun _ => rfl) f).symm))

section
variable (c : Dev nD) (i : grid1.Coords) (arg1 : Memref sig .tc .vmem S4x32x32 .f32) (harg1 : arg1.IsWhole)
  (arg2 : Memref sig .tc .vmem S4x32x32 .f32) (harg2 : arg2.IsWhole) (arg3 : Memref sig .tc .vmem S4x32x32 .f32) (harg3 : arg3.IsWhole)
  (arg4 : Memref sig .tc .vmem S128x128 .f32) (harg4 : arg4.IsWhole) (x0 : Vec Ideal S4x32x32 .f32)

/-- The first output: square roots. -/
theorem out1_root (g : Fin 4) (a b : Fin 32) :
    out1_A_1 c i arg1 harg1 arg2 harg2 arg3 harg3 arg4 harg4 x0 (ix3 g a b) = matOps.rootOf (planes x0 g) a b := by
  unfold out1_A_1
  rw [View.read_writes_eq_canon _ _ _ (cover1_A_1 c i arg1 harg1 arg2 harg2 arg3 harg3 arg4 harg4 x0)]
  unfold kernelRun1_A
  dsimp only
  sl_unfold_words
  simp only [View.readAt_eq_ld, harg1.read_unread, shapeCast_self]
  simp only [scratch1]
  have hX := (root1 (bd (planes x0))).trans (root_bd (planes x0))
  suffices H : PlaneInv (n := 4) ix3 (fun g => matOps.rootOf (planes x0 g)) 4 _ from H g a b g.isLt
  refine PlaneInv.step3 ?_ (PlaneInv.step3 ?_ (PlaneInv.step3 ?_ (PlaneInv.step3 ?_ (PlaneInv.nil _ _ _)
    rfl rfl rfl) rfl rfl rfl) rfl rfl rfl) rfl rfl rfl
  · exact cut3 hX 3 (by omega) rfl rfl slices_S128x128_o96_96_S32x32 shapeCasts_S32x32_S1x32x32
  · exact cut3 hX 2 (by omega) rfl rfl slices_S128x128_o64_64_S32x32 shapeCasts_S32x32_S1x32x32
  · exact cut3 hX 1 (by omega) rfl rfl slices_S128x128_o32_32_S32x32 shapeCasts_S32x32_S1x32x32
  · exact cut3 hX 0 (by omega) rfl rfl slices_S128x128_o0_0_S32x32 shapeCasts_S32x32_S1x32x32

/-- The second output: inverse square roots. -/
theorem out1_iroot (g : Fin 4) (a b : Fin 32) :
    out1_A_2 c i arg1 harg1 arg2 harg2 arg3 harg3 arg4 harg4 x0 (ix3 g a b)
      = matOps.invRootFrom (matOps.mul matOps.one) (planes x0 g) a b := by
  unfold out1_A_2
  rw [View.read_writes_eq_canon _ _ _ (cover1_A_2 c i arg1 harg1 arg2 harg2 arg3 harg3 arg4 harg4 x0)]
  unfold kernelRun1_A
  dsimp only
  sl_unfold_words
  simp only [View.readAt_eq_ld, harg1.read_unread, shapeCast_self]
  simp only [scratch1]
  have hX := (iroot1 (bd (planes x0))).trans (iroot_bd (planes x0))
  suffices H : PlaneInv (n := 4) ix3 (fun g => matOps.invRootFrom (matOps.mul matOps.one) (planes x0 g)) 4 _ from H g a b g.isLt
  refine PlaneInv.step3 ?_ (PlaneInv.step3 ?_ (PlaneInv.step3 ?_ (PlaneInv.step3 ?_ (PlaneInv.nil _ _ _)
    rfl rfl rfl) rfl rfl rfl) rfl rfl rfl) rfl rfl rfl
  · exact cut3 hX 3 (by omega) rfl rfl slices_S128x128_o96_96_S32x32 shapeCasts_S32x32_S1x32x32
  · exact cut3 hX 2 (by omega) rfl rfl slices_S128x128_o64_64_S32x32 shapeCasts_S32x32_S1x32x32
  · exact cut3 hX 1 (by omega) rfl rfl slices_S128x128_o32_32_S32x32 shapeCasts_S32x32_S1x32x32
  · exact cut3 hX 0 (by omega) rfl rfl slices_S128x128_o0_0_S32x32 shapeCasts_S32x32_S1x32x32

end

end Cert.Spd
end
-- ==== Proof.Reg4.lean ====
/-
  The last call: every matrix of a block is whitened by the running mean's inverse square root, raised to its channel's power
  and moved to the mean.
-/
module

public import proofs.«01_k».proof.Proof.Reg1

@[expose] public section

noncomputable section

namespace Cert.Spd

open Idealize.ShloMosaic Idealize.ShloMosaic.TcCoe Idealize.SL.Sem
open Cert.KernelIdeal Cert.KernelIdeal.Gen

/-- The operations on packed 256 by 256 tensors, at a precision of the products. -/
abbrev o256 (p : Option ContractPrecision) :=
  packOps 256 dot_S256x256_S256x256_S256x256_1_0_0_1_n_n p tot256 broadcasts_S256x1_S256x256 eye256

theorem hom256 (p : Option ContractPrecision) : Hom matOps.fam (o256 p) (bd (N := 256)) (col (N := 256)) id := packHom spec256 _ _

/-- The packed power: of eight matrices at once. -/
def powPack (W V : Sq 256) (s : EReal) (X : Sq 256) : Sq 256 :=
  (o256 (some .fp32)).powFrom s V ((o256 none).logm ((o256 none).mul ((o256 none).mul W X) W))
    ((o256 none).nrm ((o256 none).mul ((o256 none).mul W X) W))

theorem powPack_bd (W V : Mat) (s : EReal) (f : ℕ → Mat) : powPack (bd fun _ => W) (bd fun _ => V) s (bd f)
    = bd fun g => matOps.powOf s V (matOps.mul (matOps.mul W (f g)) W) := by
  unfold powPack
  rw [(hom256 none).mul, (hom256 none).mul, (hom256 none).logm, (hom256 none).nrm]
  refine ((hom256 (some .fp32)).powFrom s (fun _ => V) _ _).trans (congrArg bd (funext fun g => ?_))
  have h := matOps.fam_hom g
  exact ((h.powFrom s (fun _ => V) _ _).symm).trans (by
    unfold Ops.powOf
    rw [← h.logm, ← h.nrm]; rfl)

/-- One block stored from matrix `g` of the input block. -/
theorem block4r {n : ℕ} {m : Memref sig .tc .vmem ⟨4, ![n, 1, 32, 32]⟩ .f32} (hm : m.IsWhole)
    (x : (⟨4, ![n, 1, 32, 32]⟩ : Shape).Idx → EReal) (g : Fin n) {o : Fin 4 → ℕ}
    {inb : ∀ a, o a + (![1, 1, 32, 32] : Fin 4 → ℕ) a ≤ (⟨4, ![n, 1, 32, 32]⟩ : Shape).size a}
    (h0 : o 0 = g.val) (h1 : o 1 = 0) (h2 : o 2 = 0) (h3 : o 3 = 0) (h : (⟨4, ![1, 1, 32, 32]⟩ : Shape).ShapeCasts (sq 32))
    (h' : (sq 32).ShapeCasts (sq 32)) (i j : Fin 32) :
    shapeCast (sq 32) (shapeCast (sq 32) (View.readAt (Elt Ideal) m.view
      (Rect.unit (s := ⟨4, ![n, 1, 32, 32]⟩) o ![1, 1, 32, 32] inb).toLoadRect (hm.unread x)) h) h' (ix2 i j) = planes4 x g.val i j := by
  rw [View.readAt_eq_ld, hm.read_unread]
  exact block4 x g h0 h1 h2 h3 h h' i j

theorem zeros4 (a b : Fin 256) : (k4_pay6 (F := Ideal)) (ix3 0 a b) = 0 := by
  simp only [k4_pay6, shapeCast_self, pointwise]

section
variable (c : Dev nD) (arg3 : Memref sig .tc .vmem S32x1x32x32 .f32) (harg3 : arg3.IsWhole)
  (arg4 : Memref sig .tc .vmem S1x256x256 .f32) (harg4 : arg4.IsWhole) (arg5 : Memref sig .tc .vmem S1x256x256 .f32) (harg5 : arg5.IsWhole)
  (arg6 : Memref sig .tc .vmem S1x8x128 .f32) (harg6 : arg6.IsWhole) (arg7 : Memref sig .tc .vmem S32x1x32x32 .f32) (harg7 : arg7.IsWhole)
  (arg8 : Memref sig .tc .vmem S4x256x256 .f32) (harg8 : arg8.IsWhole)
  (x0 : Vec Ideal S32x1x32x32 .f32) (x1 : Vec Ideal S1x256x256 .f32) (x2 : Vec Ideal S1x256x256 .f32) (x3 : Vec Ideal S1x8x128 .f32)

/-- The scratch as each of the four groups of eight matrices is read from it. -/
theorem read4_0 : kernelRun4_A.sl.v72 (F := Ideal) c arg3 harg3 arg8 x0 = up (bd fun g => planes4 x0 (0 + g)) :=
  scratch8 0 arg8.view rfl rfl rfl zeros4
    (fun a b => block4r harg3 x0 0 rfl rfl rfl rfl shapeCasts_S1x1x32x32_S32x32 shapeCasts_S32x32_S32x32 a b)
    (fun a b => block4r harg3 x0 1 rfl rfl rfl rfl shapeCasts_S1x1x32x32_S32x32 shapeCasts_S32x32_S32x32 a b)
    (fun a b => block4r harg3 x0 2 rfl rfl rfl rfl shapeCasts_S1x1x32x32_S32x32 shapeCasts_S32x32_S32x32 a b)
    (fun a b => block4r harg3 x0 3 rfl rfl rfl rfl shapeCasts_S1x1x32x32_S32x32 shapeCasts_S32x32_S32x32 a b)
    (fun a b => block4r harg3 x0 4 rfl rfl rfl rfl shapeCasts_S1x1x32x32_S32x32 shapeCasts_S32x32_S32x32 a b)
    (fun a b => block4r harg3 x0 5 rfl rfl rfl rfl shapeCasts_S1x1x32x32_S32x32 shapeCasts_S32x32_S32x32 a b)
    (fun a b => block4r harg3 x0 6 rfl rfl rfl rfl shapeCasts_S1x1x32x32_S32x32 shapeCasts_S32x32_S32x32 a b)
    (fun a b => block4r harg3 x0 7 rfl rfl rfl rfl shapeCasts_S1x1x32x32_S32x32 shapeCasts_S32x32_S32x32 a b)

theorem read4_1 : kernelRun4_A.sl.v362 (F := Ideal) c arg3 harg3 arg8 x0 = up (bd fun g => planes4 x0 (8 + g)) :=
  scratch8 1 arg8.view rfl rfl rfl zeros4
    (fun a b => block4r harg3 x0 8 rfl rfl rfl rfl shapeCasts_S1x1x32x32_S32x32 shapeCasts_S32x32_S32x32 a b)
    (fun a b => block4r harg3 x0 9 rfl rfl rfl rfl shapeCasts_S1x1x32x32_S32x32 shapeCasts_S32x32_S32x32 a b)
    (fun a b => block4r harg3 x0 10 rfl rfl rfl rfl shapeCasts_S1x1x32x32_S32x32 shapeCasts_S32x32_S32x32 a b)
    (fun a b => block4r harg3 x0 11 rfl rfl rfl rfl shapeCasts_S1x1x32x32_S32x32 shapeCasts_S32x32_S32x32 a b)
    (fun a b => block4r harg3 x0 12 rfl rfl rfl rfl shapeCasts_S1x1x32x32_S32x32 shapeCasts_S32x32_S32x32 a b)
    (fun a b => block4r harg3 x0 13 rfl rfl rfl rfl shapeCasts_S1x1x32x32_S32x32 shapeCasts_S32x32_S32x32 a b)
    (fun a b => block4r harg3 x0 14 rfl rfl rfl rfl shapeCasts_S1x1x32x32_S32x32 shapeCasts_S32x32_S32x32 a b)
    (fun a b => block4r harg3 x0 15 rfl rfl rfl rfl shapeCasts_S1x1x32x32_S32x32 shapeCasts_S32x32_S32x32 a b)

theorem read4_2 : kernelRun4_A.sl.v652 (F := Ideal) c arg3 harg3 arg8 x0 = up (bd fun g => planes4 x0 (16 + g)) :=
  scratch8 2 arg8.view rfl rfl rfl zeros4
    (fun a b => block4r harg3 x0 16 rfl rfl rfl rfl shapeCasts_S1x1x32x32_S32x32 shapeCasts_S32x32_S32x32 a b)
    (fun a b => block4r harg3 x0 17 rfl rfl rfl rfl shapeCasts_S1x1x32x32_S32x32 shapeCasts_S32x32_S32x32 a b)
    (fun a b => block4r harg3 x0 18 rfl rfl rfl rfl shapeCasts_S1x1x32x32_S32x32 shapeCasts_S32x32_S32x32 a b)
    (fun a b => block4r harg3 x0 19 rfl rfl rfl rfl shapeCasts_S1x1x32x32_S32x32 shapeCasts_S32x32_S32x32 a b)
    (fun a b => block4r harg3 x0 20 rfl rfl rfl rfl shapeCasts_S1x1x32x32_S32x32 shapeCasts_S32x32_S32x32 a b)
    (fun a b => block4r harg3 x0 21 rfl rfl rfl rfl shapeCasts_S1x1x32x32_S32x32 shapeCasts_S32x32_S32x32 a b)
    (fun a b => block4r harg3 x0 22 rfl rfl rfl rfl shapeCasts_S1x1x32x32_S32x32 shapeCasts_S32x32_S32x32 a b)
    (fun a b => block4r harg3 x0 23 rfl rfl rfl rfl shapeCasts_S1x1x32x32_S32x32 shapeCasts_S32x32_S32x32 a b)

theorem read4_3 : kernelRun4_A.sl.v942 (F := Ideal) c arg3 harg3 arg8 x0 = up (bd fun g => planes4 x0 (24 + g)) :=
  scratch8 3 arg8.view rfl rfl rfl zeros4
    (fun a b => block4r harg3 x0 24 rfl rfl rfl rfl shapeCasts_S1x1x32x32_S32x32 shapeCasts_S32x32_S32x32 a b)
    (fun a b => block4r harg3 x0 25 rfl rfl rfl rfl shapeCasts_S1x1x32x32_S32x32 shapeCasts_S32x32_S32x32 a b)
    (fun a b => block4r harg3 x0 26 rfl rfl rfl rfl shapeCasts_S1x1x32x32_S32x32 shapeCasts_S32x32_S32x32 a b)
    (fun a b => block4r harg3 x0 27 rfl rfl rfl rfl shapeCasts_S1x1x32x32_S32x32 shapeCasts_S32x32_S32x32 a b)
    (fun a b => block4r harg3 x0 28 rfl rfl rfl rfl shapeCasts_S1x1x32x32_S32x32 shapeCasts_S32x32_S32x32 a b)
    (fun a b => block4r harg3 x0 29 rfl rfl rfl rfl shapeCasts_S1x1x32x32_S32x32 shapeCasts_S32x32_S32x32 a b)
    (fun a b => block4r harg3 x0 30 rfl rfl rfl rfl shapeCasts_S1x1x32x32_S32x32 shapeCasts_S32x32_S32x32 a b)
    (fun a b => block4r harg3 x0 31 rfl rfl rfl rfl shapeCasts_S1x1x32x32_S32x32 shapeCasts_S32x32_S32x32 a b)

set_option maxRecDepth 100000 in
set_option maxHeartbeats 4000000 in
theorem word4_0 : kernelRun4_A.sl.r_20 (F := Ideal) c arg3 harg3 arg4 harg4 arg5 harg5 arg6 harg6 arg8 x0 x1 x2 x3
    = powPack (kernelRun4_A.sl.r c arg4 harg4 x1) (kernelRun4_A.sl.r_1 c arg5 harg5 x2) (kernelRun4_A.sl.r_2 c arg6 harg6 x3)
        (shapeCast S256x256 (kernelRun4_A.sl.v72 c arg3 harg3 arg8 x0) shapeCasts_S1x256x256_S256x256) := by rfl

set_option maxRecDepth 100000 in
set_option maxHeartbeats 4000000 in
theorem word4_1 : kernelRun4_A.sl.r_39 (F := Ideal) c arg3 harg3 arg4 harg4 arg5 harg5 arg6 harg6 arg8 x0 x1 x2 x3
    = powPack (kernelRun4_A.sl.r c arg4 harg4 x1) (kernelRun4_A.sl.r_1 c arg5 harg5 x2) (kernelRun4_A.sl.r_2 c arg6 harg6 x3)
        (shapeCast S256x256 (kernelRun4_A.sl.v362 c arg3 harg3 arg8 x0) shapeCasts_S1x256x256_S256x256) := by rfl

set_option maxRecDepth 100000 in
set_option maxHeartbeats 4000000 in
theorem word4_2 : kernelRun4_A.sl.r_60 (F := Ideal) c arg3 harg3 arg4 harg4 arg5 harg5 arg6 harg6 arg8 x0 x1 x2 x3
    = powPack (kernelRun4_A.sl.r c arg4 harg4 x1) (kernelRun4_A.sl.r_1 c arg5 harg5 x2) (kernelRun4_A.sl.r_2 c arg6 harg6 x3)
        (shapeCast S256x256 (kernelRun4_A.sl.v652 c arg3 harg3 arg8 x0) shapeCasts_S1x256x256_S256x256) := by rfl

set_option maxRecDepth 100000 in
set_option maxHeartbeats 4000000 in
theorem word4_3 : kernelRun4_A.sl.r_80 (F := Ideal) c arg3 harg3 arg4 harg4 arg5 harg5 arg6 harg6 arg8 x0 x1 x2 x3
    = powPack (kernelRun4_A.sl.r c arg4 harg4 x1) (kernelRun4_A.sl.r_1 c arg5 harg5 x2) (kernelRun4_A.sl.r_2 c arg6 harg6 x3)
        (shapeCast S256x256 (kernelRun4_A.sl.v942 c arg3 harg3 arg8 x0) shapeCasts_S1x256x256_S256x256) := by rfl

/-- The packed matrices as they are loaded. -/
theorem load4_W (W : Sq 256) : kernelRun4_A.sl.r (F := Ideal) c arg4 harg4 (up W) = W := by
  show shapeCast S256x256 (View.readAt (Elt Ideal) arg4.view
    (Rect.unit (s := S1x256x256) ![0, 0, 0] S1x256x256.size inb_S1x256x256_S1x256x256_0_0_0).toLoadRect (harg4.unread (up W))) _ = W
  rw [View.readAt_eq_ld, harg4.read_unread, View.ld_unit_lit]
  · exact shapeCast_up W _
  · decide

theorem load4_V (V : Sq 256) : kernelRun4_A.sl.r_1 (F := Ideal) c arg5 harg5 (up V) = V := load4_W c arg5 harg5 V

theorem load4_s : kernelRun4_A.sl.r_2 (F := Ideal) c arg6 harg6 x3 = x3 (ix3 0 0 0) := by
  show extractAt ![0, 0, 0] (View.readAt (Elt Ideal) arg6.view
    (Rect.unit (s := S1x8x128) ![0, 0, 0] S1x1x1.size inb_S1x8x128_S1x1x1_0_0_0).toLoadRect (harg6.unread x3)) _ = _
  rw [View.readAt_eq_ld, harg6.read_unread]
  refine congrArg x3 (funext fun a => Fin.ext ?_)
  match a with
  | ⟨0, _⟩ => rfl
  | ⟨1, _⟩ => rfl
  | ⟨2, _⟩ => rfl

/-- Matrix `g` of the output block. -/
theorem out4_pow (i : grid4.Coords) (W V : Mat) (hW : x1 = up (bd fun _ => W)) (hV : x2 = up (bd fun _ => V)) (g : Fin 32) (a b : Fin 32) :
    out4_A_4 c i arg3 harg3 arg4 harg4 arg5 harg5 arg6 harg6 arg7 harg7 arg8 harg8 x0 x1 x2 x3 (ix4 g 0 a b)
      = matOps.powOf (x3 (ix3 0 0 0)) V (matOps.mul (matOps.mul W (planes4 x0 g)) W) a b := by
  have H0 := word4_0 c arg3 harg3 arg4 harg4 arg5 harg5 arg6 harg6 arg8 x0 x1 x2 x3
  have H1 := word4_1 c arg3 harg3 arg4 harg4 arg5 harg5 arg6 harg6 arg8 x0 x1 x2 x3
  have H2 := word4_2 c arg3 harg3 arg4 harg4 arg5 harg5 arg6 harg6 arg8 x0 x1 x2 x3
  have H3 := word4_3 c arg3 harg3 arg4 harg4 arg5 harg5 arg6 harg6 arg8 x0 x1 x2 x3
  subst hW hV
  rw [load4_W, load4_V, load4_s, read4_0, shapeCast_up, powPack_bd] at H0
  rw [load4_W, load4_V, load4_s, read4_1, shapeCast_up, powPack_bd] at H1
  rw [load4_W, load4_V, load4_s, read4_2, shapeCast_up, powPack_bd] at H2
  rw [load4_W, load4_V, load4_s, read4_3, shapeCast_up, powPack_bd] at H3
  unfold out4_A_4
  rw [View.read_writes_eq_canon _ _ _ (cover4_A_4 c i arg3 harg3 arg4 harg4 arg5 harg5 arg6 harg6 arg7 harg7 arg8 harg8 x0 _ _ x3)]
  unfold kernelRun4_A
  dsimp only
  suffices H : PlaneInv (n := 32) (fun g i j => ix4 g 0 i j)
    (fun g => matOps.powOf (x3 (ix3 0 0 0)) V (matOps.mul (matOps.mul W (planes4 x0 g)) W)) 32 _ from H g a b g.isLt
  refine PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_
    (PlaneInv.step4 ?_ (PlaneInv.step4 ?_ (PlaneInv.step4 ?_ (PlaneInv.nil _ _ _) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl) rfl rfl rfl rfl
  · exact cut4 H3 7 (by omega) rfl rfl slices_S256x256_o224_224_S32x32 shapeCasts_S32x32_S1x1x32x32
  · exact cut4 H3 6 (by omega) rfl rfl slices_S256x256_o192_192_S32x32 shapeCasts_S32x32_S1x1x32x32
  · exact cut4 H3 5 (by omega) rfl rfl slices_S256x256_o160_160_S32x32 shapeCasts_S32x32_S1x1x32x32
  · exact cut4 H3 4 (by omega) rfl rfl slices_S256x256_o128_128_S32x32 shapeCasts_S32x32_S1x1x32x32
  · exact cut4 H3 3 (by omega) rfl rfl slices_S256x256_o96_96_S32x32 shapeCasts_S32x32_S1x1x32x32
  · exact cut4 H3 2 (by omega) rfl rfl slices_S256x256_o64_64_S32x32 shapeCasts_S32x32_S1x1x32x32
  · exact cut4 H3 1 (by omega) rfl rfl slices_S256x256_o32_32_S32x32 shapeCasts_S32x32_S1x1x32x32
  · exact cut4 H3 0 (by omega) rfl rfl slices_S256x256_o0_0_S32x32 shapeCasts_S32x32_S1x1x32x32
  · exact cut4 H2 7 (by omega) rfl rfl slices_S256x256_o224_224_S32x32 shapeCasts_S32x32_S1x1x32x32
  · exact cut4 H2 6 (by omega) rfl rfl slices_S256x256_o192_192_S32x32 shapeCasts_S32x32_S1x1x32x32
  · exact cut4 H2 5 (by omega) rfl rfl slices_S256x256_o160_160_S32x32 shapeCasts_S32x32_S1x1x32x32
  · exact cut4 H2 4 (by omega) rfl rfl slices_S256x256_o128_128_S32x32 shapeCasts_S32x32_S1x1x32x32
  · exact cut4 H2 3 (by omega) rfl rfl slices_S256x256_o96_96_S32x32 shapeCasts_S32x32_S1x1x32x32
  · exact cut4 H2 2 (by omega) rfl rfl slices_S256x256_o64_64_S32x32 shapeCasts_S32x32_S1x1x32x32
  · exact cut4 H2 1 (by omega) rfl rfl slices_S256x256_o32_32_S32x32 shapeCasts_S32x32_S1x1x32x32
  · exact cut4 H2 0 (by omega) rfl rfl slices_S256x256_o0_0_S32x32 shapeCasts_S32x32_S1x1x32x32
  · exact cut4 H1 7 (by omega) rfl rfl slices_S256x256_o224_224_S32x32 shapeCasts_S32x32_S1x1x32x32
  · exact cut4 H1 6 (by omega) rfl rfl slices_S256x256_o192_192_S32x32 shapeCasts_S32x32_S1x1x32x32
  · exact cut4 H1 5 (by omega) rfl rfl slices_S256x256_o160_160_S32x32 shapeCasts_S32x32_S1x1x32x32
  · exact cut4 H1 4 (by omega) rfl rfl slices_S256x256_o128_128_S32x32 shapeCasts_S32x32_S1x1x32x32
  · exact cut4 H1 3 (by omega) rfl rfl slices_S256x256_o96_96_S32x32 shapeCasts_S32x32_S1x1x32x32
  · exact cut4 H1 2 (by omega) rfl rfl slices_S256x256_o64_64_S32x32 shapeCasts_S32x32_S1x1x32x32
  · exact cut4 H1 1 (by omega) rfl rfl slices_S256x256_o32_32_S32x32 shapeCasts_S32x32_S1x1x32x32
  · exact cut4 H1 0 (by omega) rfl rfl slices_S256x256_o0_0_S32x32 shapeCasts_S32x32_S1x1x32x32
  · exact cut4 H0 7 (by omega) rfl rfl slices_S256x256_o224_224_S32x32 shapeCasts_S32x32_S1x1x32x32
  · exact cut4 H0 6 (by omega) rfl rfl slices_S256x256_o192_192_S32x32 shapeCasts_S32x32_S1x1x32x32
  · exact cut4 H0 5 (by omega) rfl rfl slices_S256x256_o160_160_S32x32 shapeCasts_S32x32_S1x1x32x32
  · exact cut4 H0 4 (by omega) rfl rfl slices_S256x256_o128_128_S32x32 shapeCasts_S32x32_S1x1x32x32
  · exact cut4 H0 3 (by omega) rfl rfl slices_S256x256_o96_96_S32x32 shapeCasts_S32x32_S1x1x32x32
  · exact cut4 H0 2 (by omega) rfl rfl slices_S256x256_o64_64_S32x32 shapeCasts_S32x32_S1x1x32x32
  · exact cut4 H0 1 (by omega) rfl rfl slices_S256x256_o32_32_S32x32 shapeCasts_S32x32_S1x1x32x32
  · exact cut4 H0 0 (by omega) rfl rfl slices_S256x256_o0_0_S32x32 shapeCasts_S32x32_S1x1x32x32

end
end Cert.Spd
end
-- ==== Proof.Reg2.lean ====
/-
  The third call: the sums over the batch of the logarithms of the whitened matrices and of their squares. One grid point adds
  thirty-two matrices, eight at a time on the diagonal of a 256 by 256 tensor.
-/
module

public import proofs.«01_k».proof.Proof.Reg4

@[expose] public section

noncomputable section

namespace Cert.Spd

open Idealize.ShloMosaic Idealize.ShloMosaic.TcCoe Idealize.SL.Sem
open Cert.KernelIdeal Cert.KernelIdeal.Gen

/-- The packed logarithm of eight whitened matrices. -/
def logPack (W X : Sq 256) : Sq 256 := (o256 none).logOf ((o256 none).mul ((o256 none).mul W X) W)

/-- The logarithm of a matrix whitened by `W`. -/
def logWhite (W A : Mat) : Mat := matOps.logOf (matOps.mul (matOps.mul W A) W)

theorem logPack_bd (W : Mat) (f : ℕ → Mat) : logPack (bd fun _ => W) (bd f) = bd fun g => logWhite W (f g) := by
  unfold logPack
  rw [(hom256 none).mul, (hom256 none).mul, (hom256 none).logOf]
  exact congrArg bd (funext fun g => ((matOps.fam_hom g).logOf _).symm)

/-- The squares of a packed tensor, the thirty-two rows of one residue modulo eight added up. -/
def rows8 (X : Sq 256) : FVec Ideal S8x256 .f32 :=
  multiReduction .add [0] S8x256 (shapeCast S32x8x256 (mulf X X) shapeCasts_S256x256_S32x8x256) 0x00000000#32
    reduces_S32x8x256_S8x256 (.inl rfl) rfl

theorem rows8_apply (X : Sq 256) (k : Fin 8) (cc : Fin 256) : rows8 X (ix2 k cc)
    = ∑ r : Fin 32, X (ix2 ⟨8 * r.val + k.val, by omega⟩ cc) * X (ix2 ⟨8 * r.val + k.val, by omega⟩ cc) := by
  unfold rows8
  simp only [pointwise]
  rfl

theorem zeros2 (a b : Fin 256) : (k2_pay7 (F := Ideal)) (ix3 0 a b) = 0 := by
  simp only [k2_pay7, shapeCast_self, pointwise]

/-- The thirty-two logarithms of one point, in four packed tensors. -/
def four (W : Mat) (x0 : Vec Ideal S32x1x32x32 .f32) (q : Fin 4) : Sq 256 := bd fun g => logWhite W (planes4 x0 (8 * q.val + g))

section
variable (c : Dev nD) (arg3 : Memref sig .tc .vmem S32x1x32x32 .f32) (harg3 : arg3.IsWhole)
  (arg4 : Memref sig .tc .vmem S1x256x256 .f32) (harg4 : arg4.IsWhole)
  (arg5 : Memref sig .tc .vmem S1x1x256x256 .f32) (harg5 : arg5.IsWhole) (arg6 : Memref sig .tc .vmem S1x1x8x256 .f32) (harg6 : arg6.IsWhole)
  (arg7 : Memref sig .tc .vmem S4x256x256 .f32) (harg7 : arg7.IsWhole)
  (x0 : Vec Ideal S32x1x32x32 .f32) (x1 : Vec Ideal S1x256x256 .f32)

/-- The scratch as each of the four groups of eight matrices is read from it. -/
theorem read2_0 : kernelRun2_A.sl.v71 (F := Ideal) c arg3 harg3 arg7 x0 = up (bd fun g => planes4 x0 (0 + g)) :=
  scratch8 0 arg7.view rfl rfl rfl zeros2
    (fun a b => block4r harg3 x0 0 rfl rfl rfl rfl shapeCasts_S1x1x32x32_S32x32 shapeCasts_S32x32_S32x32 a b)
    (fun a b => block4r harg3 x0 1 rfl rfl rfl rfl shapeCasts_S1x1x32x32_S32x32 shapeCasts_S32x32_S32x32 a b)
    (fun a b => block4r harg3 x0 2 rfl rfl rfl rfl shapeCasts_S1x1x32x32_S32x32 shapeCasts_S32x32_S32x32 a b)
    (fun a b => block4r harg3 x0 3 rfl rfl rfl rfl shapeCasts_S1x1x32x32_S32x32 shapeCasts_S32x32_S32x32 a b)
    (fun a b => block4r harg3 x0 4 rfl rfl rfl rfl shapeCasts_S1x1x32x32_S32x32 shapeCasts_S32x32_S32x32 a b)
    (fun a b => block4r harg3 x0 5 rfl rfl rfl rfl shapeCasts_S1x1x32x32_S32x32 shapeCasts_S32x32_S32x32 a b)
    (fun a b => block4r harg3 x0 6 rfl rfl rfl rfl shapeCasts_S1x1x32x32_S32x32 shapeCasts_S32x32_S32x32 a b)
    (fun a b => block4r harg3 x0 7 rfl rfl rfl rfl shapeCasts_S1x1x32x32_S32x32 shapeCasts_S32x32_S32x32 a b)

theorem read2_1 : kernelRun2_A.sl.v286 (F := Ideal) c arg3 harg3 arg7 x0 = up (bd fun g => planes4 x0 (8 + g)) :=
  scratch8 1 arg7.view rfl rfl rfl zeros2
    (fun a b => block4r harg3 x0 8 rfl rfl rfl rfl shapeCasts_S1x1x32x32_S32x32 shapeCasts_S32x32_S32x32 a b)
    (fun a b => block4r harg3 x0 9 rfl rfl rfl rfl shapeCasts_S1x1x32x32_S32x32 shapeCasts_S32x32_S32x32 a b)
    (fun a b => block4r harg3 x0 10 rfl rfl rfl rfl shapeCasts_S1x1x32x32_S32x32 shapeCasts_S32x32_S32x32 a b)
    (fun a b => block4r harg3 x0 11 rfl rfl rfl rfl shapeCasts_S1x1x32x32_S32x32 shapeCasts_S32x32_S32x32 a b)
    (fun a b => block4r harg3 x0 12 rfl rfl rfl rfl shapeCasts_S1x1x32x32_S32x32 shapeCasts_S32x32_S32x32 a b)
    (fun a b => block4r harg3 x0 13 rfl rfl rfl rfl shapeCasts_S1x1x32x32_S32x32 shapeCasts_S32x32_S32x32 a b)
    (fun a b => block4r harg3 x0 14 rfl rfl rfl rfl shapeCasts_S1x1x32x32_S32x32 shapeCasts_S32x32_S32x32 a b)
    (fun a b => block4r harg3 x0 15 rfl rfl rfl rfl shapeCasts_S1x1x32x32_S32x32 shapeCasts_S32x32_S32x32 a b)

theorem read2_2 : kernelRun2_A.sl.v503 (F := Ideal) c arg3 harg3 arg7 x0 = up (bd fun g => planes4 x0 (16 + g)) :=
  scratch8 2 arg7.view rfl rfl rfl zeros2
    (fun a b => block4r harg3 x0 16 rfl rfl rfl rfl shapeCasts_S1x1x32x32_S32x32 shapeCasts_S32x32_S32x32 a b)
    (fun a b => block4r harg3 x0 17 rfl rfl rfl rfl shapeCasts_S1x1x32x32_S32x32 shapeCasts_S32x32_S32x32 a b)
    (fun a b => block4r harg3 x0 18 rfl rfl rfl rfl shapeCasts_S1x1x32x32_S32x32 shapeCasts_S32x32_S32x32 a b)
    (fun a b => block4r harg3 x0 19 rfl rfl rfl rfl shapeCasts_S1x1x32x32_S32x32 shapeCasts_S32x32_S32x32 a b)
    (fun a b => block4r harg3 x0 20 rfl rfl rfl rfl shapeCasts_S1x1x32x32_S32x32 shapeCasts_S32x32_S32x32 a b)
    (fun a b => block4r harg3 x0 21 rfl rfl rfl rfl shapeCasts_S1x1x32x32_S32x32 shapeCasts_S32x32_S32x32 a b)
    (fun a b => block4r harg3 x0 22 rfl rfl rfl rfl shapeCasts_S1x1x32x32_S32x32 shapeCasts_S32x32_S32x32 a b)
    (fun a b => block4r harg3 x0 23 rfl rfl rfl rfl shapeCasts_S1x1x32x32_S32x32 shapeCasts_S32x32_S32x32 a b)

theorem read2_3 : kernelRun2_A.sl.v720 (F := Ideal) c arg3 harg3 arg7 x0 = up (bd fun g => planes4 x0 (24 + g)) :=
  scratch8 3 arg7.view rfl rfl rfl zeros2
    (fun a b => block4r harg3 x0 24 rfl rfl rfl rfl shapeCasts_S1x1x32x32_S32x32 shapeCasts_S32x32_S32x32 a b)
    (fun a b => block4r harg3 x0 25 rfl rfl rfl rfl shapeCasts_S1x1x32x32_S32x32 shapeCasts_S32x32_S32x32 a b)
    (fun a b => block4r harg3 x0 26 rfl rfl rfl rfl shapeCasts_S1x1x32x32_S32x32 shapeCasts_S32x32_S32x32 a b)
    (fun a b => block4r harg3 x0 27 rfl rfl rfl rfl shapeCasts_S1x1x32x32_S32x32 shapeCasts_S32x32_S32x32 a b)
    (fun a b => block4r harg3 x0 28 rfl rfl rfl rfl shapeCasts_S1x1x32x32_S32x32 shapeCasts_S32x32_S32x32 a b)
    (fun a b => block4r harg3 x0 29 rfl rfl rfl rfl shapeCasts_S1x1x32x32_S32x32 shapeCasts_S32x32_S32x32 a b)
    (fun a b => block4r harg3 x0 30 rfl rfl rfl rfl shapeCasts_S1x1x32x32_S32x32 shapeCasts_S32x32_S32x32 a b)
    (fun a b => block4r harg3 x0 31 rfl rfl rfl rfl shapeCasts_S1x1x32x32_S32x32 shapeCasts_S32x32_S32x32 a b)

/-- The packed matrix as it is loaded. -/
theorem load2_W (W : Sq 256) : kernelRun2_A.sl.r (F := Ideal) c arg4 harg4 (up W) = W := load4_W c arg4 harg4 W

set_option maxRecDepth 100000 in
set_option maxHeartbeats 4000000 in
/-- What a first point adds to the sums of the logarithms. -/
theorem word2_xt : kernelRun2_A.sl.r_65 (F := Ideal) c arg3 harg3 arg4 harg4 arg5 arg7 x0 x1
    = addf (shapeCast S256x256 (kernelRun2_A.sl.v877 c arg5) shapeCasts_S1x1x256x256_S256x256)
      (addf (addf (addf
        (logPack (kernelRun2_A.sl.r c arg4 harg4 x1) (shapeCast S256x256 (kernelRun2_A.sl.v71 c arg3 harg3 arg7 x0) shapeCasts_S1x256x256_S256x256))
        (logPack (kernelRun2_A.sl.r c arg4 harg4 x1) (shapeCast S256x256 (kernelRun2_A.sl.v286 c arg3 harg3 arg7 x0) shapeCasts_S1x256x256_S256x256)))
        (logPack (kernelRun2_A.sl.r c arg4 harg4 x1) (shapeCast S256x256 (kernelRun2_A.sl.v503 c arg3 harg3 arg7 x0) shapeCasts_S1x256x256_S256x256)))
        (logPack (kernelRun2_A.sl.r c arg4 harg4 x1) (shapeCast S256x256 (kernelRun2_A.sl.v720 c arg3 harg3 arg7 x0) shapeCasts_S1x256x256_S256x256))) := by rfl

set_option maxRecDepth 100000 in
set_option maxHeartbeats 4000000 in
/-- What a point adds to the sums of the squares. -/
theorem word2_nrm : kernelRun2_A.sl.r_64 (F := Ideal) c arg3 harg3 arg4 harg4 arg7 x0 x1
    = addf (addf (addf
        (rows8 (logPack (kernelRun2_A.sl.r c arg4 harg4 x1) (shapeCast S256x256 (kernelRun2_A.sl.v71 c arg3 harg3 arg7 x0) shapeCasts_S1x256x256_S256x256)))
        (rows8 (logPack (kernelRun2_A.sl.r c arg4 harg4 x1) (shapeCast S256x256 (kernelRun2_A.sl.v286 c arg3 harg3 arg7 x0) shapeCasts_S1x256x256_S256x256))))
        (rows8 (logPack (kernelRun2_A.sl.r c arg4 harg4 x1) (shapeCast S256x256 (kernelRun2_A.sl.v503 c arg3 harg3 arg7 x0) shapeCasts_S1x256x256_S256x256))))
        (rows8 (logPack (kernelRun2_A.sl.r c arg4 harg4 x1) (shapeCast S256x256 (kernelRun2_A.sl.v720 c arg3 harg3 arg7 x0) shapeCasts_S1x256x256_S256x256))) := by rfl

set_option maxRecDepth 100000 in
set_option maxHeartbeats 4000000 in
/-- A later point adds the same. -/
theorem same2_nrm : kernelRun2_B.sl.r_64 (F := Ideal) c arg3 harg3 arg4 harg4 arg7 x0 x1
    = kernelRun2_A.sl.r_64 (F := Ideal) c arg3 harg3 arg4 harg4 arg7 x0 x1 := by rfl

set_option maxRecDepth 100000 in
set_option maxHeartbeats 4000000 in
/-- What a later point adds to the sums of the logarithms. -/
theorem same2_xt (xo2 : Vec Ideal S1x1x256x256 .f32) : kernelRun2_B.sl.r_65 (F := Ideal) c arg3 harg3 arg4 harg4 arg5 harg5 arg7 x0 x1 xo2
    = addf (shapeCast S256x256 (View.readAt (Elt Ideal) arg5.view
        (Rect.unit ![0, 0, 0, 0] S1x1x256x256.size inb_S1x1x256x256_S1x1x256x256_0_0_0_0).toLoadRect (harg5.unread xo2)) shapeCasts_S1x1x256x256_S256x256)
      (addf (addf (addf
        (logPack (kernelRun2_A.sl.r c arg4 harg4 x1) (shapeCast S256x256 (kernelRun2_A.sl.v71 c arg3 harg3 arg7 x0) shapeCasts_S1x256x256_S256x256))
        (logPack (kernelRun2_A.sl.r c arg4 harg4 x1) (shapeCast S256x256 (kernelRun2_A.sl.v286 c arg3 harg3 arg7 x0) shapeCasts_S1x256x256_S256x256)))
        (logPack (kernelRun2_A.sl.r c arg4 harg4 x1) (shapeCast S256x256 (kernelRun2_A.sl.v503 c arg3 harg3 arg7 x0) shapeCasts_S1x256x256_S256x256)))
        (logPack (kernelRun2_A.sl.r c arg4 harg4 x1) (shapeCast S256x256 (kernelRun2_A.sl.v720 c arg3 harg3 arg7 x0) shapeCasts_S1x256x256_S256x256))) := by rfl

/-- What one point adds to the sums of the logarithms. -/
def addL (W : Mat) (x0 : Vec Ideal S32x1x32x32 .f32) (r cc : Fin 256) : EReal := ∑ q : Fin 4, four W x0 q (ix2 r cc)

/-- What one point adds to the sums of the squares. -/
def addN (W : Mat) (x0 : Vec Ideal S32x1x32x32 .f32) (k : Fin 8) (cc : Fin 256) : EReal := ∑ q : Fin 4, rows8 (four W x0 q) (ix2 k cc)

/-- One group of eight logarithms. -/
theorem group2 (W : Mat) (q : Fin 4) {w : Vec Ideal S1x256x256 .f32} (h : w = up (bd fun g => planes4 x0 (8 * q.val + g))) :
    logPack (kernelRun2_A.sl.r (F := Ideal) c arg4 harg4 (up (bd fun _ => W))) (shapeCast S256x256 w shapeCasts_S1x256x256_S256x256) = four W x0 q := by
  rw [load2_W, h, shapeCast_up, logPack_bd]
  rfl

variable (i : grid2.Coords) (W : Mat) (hW : x1 = up (bd fun _ => W))
include hW

/-- The sums of the squares one point adds. -/
theorem nrm2_apply (k : Fin 8) (cc : Fin 256) : kernelRun2_A.sl.r_64 (F := Ideal) c arg3 harg3 arg4 harg4 arg7 x0 x1 (ix2 k cc) = addN W x0 k cc := by
  subst hW
  rw [word2_nrm, group2 c arg4 harg4 x0 W 0 (read2_0 c arg3 harg3 arg7 x0), group2 c arg4 harg4 x0 W 1 (read2_1 c arg3 harg3 arg7 x0),
    group2 c arg4 harg4 x0 W 2 (read2_2 c arg3 harg3 arg7 x0), group2 c arg4 harg4 x0 W 3 (read2_3 c arg3 harg3 arg7 x0)]
  exact (Fin.sum_univ_four (fun q : Fin 4 => rows8 (four W x0 q) (ix2 k cc))).symm

theorem out2_A_xt (hc0 : cond2_0 i) (r cc : Fin 256) :
    out2_A_2 c i arg3 harg3 arg4 harg4 arg5 harg5 arg6 harg6 arg7 harg7 hc0 x0 x1 (ix4 0 0 r cc) = addL W x0 r cc := by
  unfold out2_A_2
  rw [View.read_writes_eq_canon _ _ _ (cover2_A_2 c i arg3 harg3 arg4 harg4 arg5 harg5 arg6 harg6 arg7 harg7 hc0 x0 x1)]
  unfold kernelRun2_A
  dsimp only
  have hz : (![0, 0, 0, 0] : Fin 4 → ℕ) = fun _ => 0 := funext fun a => by fin_cases a <;> rfl
  rw [View.canon_cons_unit_zero (S := S1x1x256x256) hz]
  subst hW
  rw [word2_xt, group2 c arg4 harg4 x0 W 0 (read2_0 c arg3 harg3 arg7 x0), group2 c arg4 harg4 x0 W 1 (read2_1 c arg3 harg3 arg7 x0),
    group2 c arg4 harg4 x0 W 2 (read2_2 c arg3 harg3 arg7 x0), group2 c arg4 harg4 x0 W 3 (read2_3 c arg3 harg3 arg7 x0)]
  unfold k2_pay1 kernelRun2_A.sl.v877 kernelRun2_A.sl.H2_1
  rw [View.readCov_unit_zero (S := S1x1x256x256) _ hz]
  rw [shapeCast_apply _ _ _ (ix2 r cc) (by simp [Shape.rowMajor_val_four, Shape.rowMajor_val_two])]
  simp only [k2_pay4, pointwise]
  rw [zero_add]
  exact (Fin.sum_univ_four (fun q : Fin 4 => four W x0 q (ix2 r cc))).symm

theorem out2_A_nrm (hc0 : cond2_0 i) (k : Fin 8) (cc : Fin 256) :
    out2_A_3 c i arg3 harg3 arg4 harg4 arg5 harg5 arg6 harg6 arg7 harg7 hc0 x0 x1 (ix4 0 0 k cc) = addN W x0 k cc := by
  unfold out2_A_3
  rw [View.read_writes_eq_canon _ _ _ (cover2_A_3 c i arg3 harg3 arg4 harg4 arg5 harg5 arg6 harg6 arg7 harg7 hc0 x0 x1)]
  unfold kernelRun2_A
  dsimp only
  have hz : (![0, 0, 0, 0] : Fin 4 → ℕ) = fun _ => 0 := funext fun a => by fin_cases a <;> rfl
  rw [View.canon_cons_unit_zero (S := S1x1x8x256) hz]
  have hn := nrm2_apply c arg3 harg3 arg4 harg4 arg7 x0 x1 W hW k cc
  unfold k2_pay2 kernelRun2_A.sl.v883 kernelRun2_A.sl.H3_1
  rw [View.readCov_unit_zero (S := S1x1x8x256) _ hz]
  rw [shapeCast_apply _ _ _ (ix2 k cc) (by simp [Shape.rowMajor_val_four, Shape.rowMajor_val_two])]
  simp only [k2_pay5, pointwise]
  rw [hn, zero_add]

theorem out2_B_xt (hc0 : ¬cond2_0 i) (xo2 : Vec Ideal S1x1x256x256 .f32) (xo3 : Vec Ideal S1x1x8x256 .f32) (r cc : Fin 256) :
    out2_B_2 c i arg3 harg3 arg4 harg4 arg5 harg5 arg6 harg6 arg7 harg7 hc0 x0 x1 xo2 xo3 (ix4 0 0 r cc)
      = xo2 (ix4 0 0 r cc) + addL W x0 r cc := by
  unfold out2_B_2
  rw [View.read_writes_eq_canon _ _ _ (cover2_B_2 c i arg3 harg3 arg4 harg4 arg5 harg5 arg6 harg6 arg7 harg7 hc0 x0 x1 xo2 xo3)]
  unfold kernelRun2_B
  dsimp only
  have hz : (![0, 0, 0, 0] : Fin 4 → ℕ) = fun _ => 0 := funext fun a => by fin_cases a <;> rfl
  rw [View.canon_cons_unit_zero (S := S1x1x256x256) hz]
  subst hW
  rw [same2_xt, group2 c arg4 harg4 x0 W 0 (read2_0 c arg3 harg3 arg7 x0), group2 c arg4 harg4 x0 W 1 (read2_1 c arg3 harg3 arg7 x0),
    group2 c arg4 harg4 x0 W 2 (read2_2 c arg3 harg3 arg7 x0), group2 c arg4 harg4 x0 W 3 (read2_3 c arg3 harg3 arg7 x0)]
  rw [View.readAt_eq_ld, harg5.read_unread, View.ld_unit_zero (S := S1x1x256x256) hz]
  unfold k2_pay1
  rw [shapeCast_apply _ _ _ (ix2 r cc) (by simp [Shape.rowMajor_val_four, Shape.rowMajor_val_two])]
  simp only [addf_apply]
  rw [shapeCast_apply _ _ _ (ix4 0 0 r cc) (by simp [Shape.rowMajor_val_four, Shape.rowMajor_val_two])]
  exact congrArg (xo2 (ix4 0 0 r cc) + ·) (Fin.sum_univ_four (fun q : Fin 4 => four W x0 q (ix2 r cc))).symm

theorem out2_B_nrm (hc0 : ¬cond2_0 i) (xo2 : Vec Ideal S1x1x256x256 .f32) (xo3 : Vec Ideal S1x1x8x256 .f32) (k : Fin 8) (cc : Fin 256) :
    out2_B_3 c i arg3 harg3 arg4 harg4 arg5 harg5 arg6 harg6 arg7 harg7 hc0 x0 x1 xo2 xo3 (ix4 0 0 k cc)
      = xo3 (ix4 0 0 k cc) + addN W x0 k cc := by
  unfold out2_B_3
  rw [View.read_writes_eq_canon _ _ _ (cover2_B_3 c i arg3 harg3 arg4 harg4 arg5 harg5 arg6 harg6 arg7 harg7 hc0 x0 x1 xo2 xo3)]
  unfold kernelRun2_B
  dsimp only
  have hz : (![0, 0, 0, 0] : Fin 4 → ℕ) = fun _ => 0 := funext fun a => by fin_cases a <;> rfl
  rw [View.canon_cons_unit_zero (S := S1x1x8x256) hz]
  have hn := nrm2_apply c arg3 harg3 arg4 harg4 arg7 x0 x1 W hW k cc
  rw [same2_nrm]
  unfold k2_pay2 kernelRun2_B.sl.v883
  rw [View.readAt_eq_ld, harg6.read_unread, View.ld_unit_zero (S := S1x1x8x256) hz]
  rw [shapeCast_apply _ _ _ (ix2 k cc) (by simp [Shape.rowMajor_val_four, Shape.rowMajor_val_two])]
  simp only [addf_apply]
  rw [shapeCast_apply _ _ _ (ix4 0 0 k cc) (by simp [Shape.rowMajor_val_four, Shape.rowMajor_val_two]), hn]
  rfl

end

end Cert.Spd
end
-- ==== Proof.Reg3.lean ====
/-
  The fourth call on four matrices at once: from the mean of the logarithms, the batch mean's square root and the given mean
  to the inverse square root of the running mean and the square root of the given mean.
-/
module

public import proofs.«01_k».proof.Proof.Reg1

@[expose] public section

noncomputable section

namespace Cert.Spd

open Idealize.ShloMosaic Idealize.ShloMosaic.TcCoe Idealize.SL.Sem
open Cert.KernelIdeal Cert.KernelIdeal.Gen

/-- One block stored from matrix `g` of a rank-3 input. -/
theorem block3r {n : ℕ} {m : Memref sig .tc .vmem ⟨3, ![n, 32, 32]⟩ .f32} (hm : m.IsWhole)
    (x : (⟨3, ![n, 32, 32]⟩ : Shape).Idx → EReal) (g : Fin n) {o : Fin 3 → ℕ}
    {inb : ∀ a, o a + (![1, 32, 32] : Fin 3 → ℕ) a ≤ (⟨3, ![n, 32, 32]⟩ : Shape).size a}
    (h0 : o 0 = g.val) (h1 : o 1 = 0) (h2 : o 2 = 0) (h : (⟨3, ![1, 32, 32]⟩ : Shape).ShapeCasts (sq 32))
    (h' : (sq 32).ShapeCasts (sq 32)) (i j : Fin 32) :
    shapeCast (sq 32) (shapeCast (sq 32) (View.readAt (Elt Ideal) m.view
      (Rect.unit (s := ⟨3, ![n, 32, 32]⟩) o ![1, 32, 32] inb).toLoadRect (hm.unread x)) h) h' (ix2 i j) = planes x g.val i j := by
  rw [View.readAt_eq_ld, hm.read_unread]
  exact block3 x g h0 h1 h2 h h' i j

/-- The scratch after a fill with zeros and four blocks from an input, whatever it held before. -/
theorem scratch4 {sg : RefSig} {κ : Kind} {sp : Space} (v : View sg κ sp S128x128 .f32) {m : Memref sig .tc .vmem S4x32x32 .f32}
    (hm : m.IsWhole) (x : Vec Ideal S4x32x32 .f32) {L : List (View.Piece (Elt Ideal) S128x128 .f32)}
    {z : (sq 128).Idx → EReal} {w0 w1 w2 w3 : (sq 32).Idx → EReal} {j j0 j1 j2 j3 k0 k1 k2 k3}
    {h : (⟨3, ![1, 32, 32]⟩ : Shape).ShapeCasts (sq 32)} {h' : (sq 32).ShapeCasts (sq 32)}
    (hz : ∀ a b, z (ix2 a b) = 0)
    (h0 : w0 = shapeCast (sq 32) (shapeCast (sq 32) (View.readAt (Elt Ideal) m.view
      (Rect.unit (s := S4x32x32) ![0, 0, 0] ![1, 32, 32] k0).toLoadRect (hm.unread x)) h) h')
    (h1 : w1 = shapeCast (sq 32) (shapeCast (sq 32) (View.readAt (Elt Ideal) m.view
      (Rect.unit (s := S4x32x32) ![1, 0, 0] ![1, 32, 32] k1).toLoadRect (hm.unread x)) h) h')
    (h2 : w2 = shapeCast (sq 32) (shapeCast (sq 32) (View.readAt (Elt Ideal) m.view
      (Rect.unit (s := S4x32x32) ![2, 0, 0] ![1, 32, 32] k2).toLoadRect (hm.unread x)) h) h')
    (h3 : w3 = shapeCast (sq 32) (shapeCast (sq 32) (View.readAt (Elt Ideal) m.view
      (Rect.unit (s := S4x32x32) ![3, 0, 0] ![1, 32, 32] k3).toLoadRect (hm.unread x)) h) h') :
    v.readCov (Val := Elt Ideal)
      (⟨Rect.unit (s := sq 128) ![96, 96] ![32, 32] j3, w3⟩ :: ⟨Rect.unit (s := sq 128) ![64, 64] ![32, 32] j2, w2⟩ ::
        ⟨Rect.unit (s := sq 128) ![32, 32] ![32, 32] j1, w1⟩ :: ⟨Rect.unit (s := sq 128) ![0, 0] ![32, 32] j0, w0⟩ ::
        ⟨Rect.unit (s := sq 128) ![0, 0] ![128, 128] j, z⟩ :: L)
      (Rect.unit (s := sq 128) ![0, 0] ![128, 128] j).toLoadRect = bd (N := 128) (planes x) :=
  DiagInv.read2 (n := 4) v
    (DiagInv.step2 (fun a b => (congrFun h3 _).trans (block3r hm x 3 rfl rfl rfl h h' a b))
      (DiagInv.step2 (fun a b => (congrFun h2 _).trans (block3r hm x 2 rfl rfl rfl h h' a b))
        (DiagInv.step2 (fun a b => (congrFun h1 _).trans (block3r hm x 1 rfl rfl rfl h h' a b))
          (DiagInv.step2 (fun a b => (congrFun h0 _).trans (block3r hm x 0 rfl rfl rfl h h' a b))
            (DiagInv.fill2 hz rfl rfl) (by omega) rfl rfl) (by omega) rfl rfl) (by omega) rfl rfl) (by omega) rfl rfl) rfl rfl rfl

section
variable (c : Dev nD) (i : grid3.Coords) (arg1 : Memref sig .tc .vmem S4x32x32 .f32) (harg1 : arg1.IsWhole)
  (arg2 : Memref sig .tc .vmem S4x32x32 .f32) (harg2 : arg2.IsWhole) (arg3 : Memref sig .tc .vmem S4x32x32 .f32) (harg3 : arg3.IsWhole)
  (arg4 : Memref sig .tc .vmem S4x32x32 .f32) (harg4 : arg4.IsWhole) (arg5 : Memref sig .tc .vmem S4x32x32 .f32) (harg5 : arg5.IsWhole)
  (arg6 : Memref sig .tc .vmem S128x128 .f32) (harg6 : arg6.IsWhole)
  (x0 x1 x2 : Vec Ideal S4x32x32 .f32)

/-- The scratch as it is read the first, the second and the third time. -/
theorem read3_0 : kernelRun3_A.sl.v30 (F := Ideal) c arg1 harg1 arg6 x0 = bd (N := 128) (planes x0) :=
  scratch4 arg6.view harg1 x0 (h := shapeCasts_S1x32x32_S32x32) (h' := shapeCasts_S32x32_S32x32) zeros1 rfl rfl rfl rfl

theorem read3_1 : kernelRun3_A.sl.v80 (F := Ideal) c arg1 harg1 arg2 harg2 arg6 x0 x1 = bd (N := 128) (planes x1) :=
  scratch4 arg6.view harg2 x1 (h := shapeCasts_S1x32x32_S32x32) (h' := shapeCasts_S32x32_S32x32) zeros1 rfl rfl rfl rfl

theorem read3_2 : kernelRun3_A.sl.v181 (F := Ideal) c arg1 harg1 arg2 harg2 arg3 harg3 arg6 x0 x1 x2 = bd (N := 128) (planes x2) :=
  scratch4 arg6.view harg3 x2 (h := shapeCasts_S1x32x32_S32x32) (h' := shapeCasts_S32x32_S32x32) zeros1 rfl rfl rfl rfl

set_option maxRecDepth 100000 in
set_option maxHeartbeats 4000000 in
/-- The kernel's inverse square root of the running mean is the packed one. -/
theorem word3_0 : kernelRun3_A.sl.r_8 (F := Ideal) c arg1 harg1 arg2 harg2 arg6 x0 x1
    = o128.invRootFrom (o128.mul o128.one) (o128.mul (o128.mul (kernelRun3_A.sl.v80 c arg1 harg1 arg2 harg2 arg6 x0 x1)
        (o128.expm (kernelRun3_A.sl.v30 c arg1 harg1 arg6 x0))) (kernelRun3_A.sl.v80 c arg1 harg1 arg2 harg2 arg6 x0 x1)) := by rfl

set_option maxRecDepth 100000 in
set_option maxHeartbeats 4000000 in
/-- The kernel's square root of the given mean is the packed one. -/
theorem word3_1 : kernelRun3_A.sl.r_17 (F := Ideal) c arg1 harg1 arg2 harg2 arg3 harg3 arg6 x0 x1 x2
    = o128.rootOf (kernelRun3_A.sl.v181 c arg1 harg1 arg2 harg2 arg3 harg3 arg6 x0 x1 x2) := by rfl

/-- The first output: the inverse square root of the mean moved along the exponential. -/
theorem out3_iroot (g : Fin 4) (a b : Fin 32) :
    out3_A_3 c i arg1 harg1 arg2 harg2 arg3 harg3 arg4 harg4 arg5 harg5 arg6 harg6 x0 x1 x2 (ix3 g a b)
      = matOps.invRootFrom (matOps.mul matOps.one)
          (matOps.mul (matOps.mul (planes x1 g) (matOps.expm (planes x0 g))) (planes x1 g)) a b := by
  have hX := word3_0 c arg1 harg1 arg2 harg2 arg6 x0 x1
  rw [read3_0, read3_1, hom128.expm, hom128.mul, hom128.mul, iroot_bd] at hX
  replace hX := hX.trans (congrArg (bd (N := 128)) (funext fun g => congrArg (matOps.invRootFrom (matOps.mul matOps.one))
    (congrArg (fun E => matOps.mul (matOps.mul (planes x1 g) E) (planes x1 g)) ((matOps.fam_hom g).expm (planes x0)).symm)))
  unfold out3_A_3
  rw [View.read_writes_eq_canon _ _ _ (cover3_A_3 c i arg1 harg1 arg2 harg2 arg3 harg3 arg4 harg4 arg5 harg5 arg6 harg6 x0 x1 x2)]
  unfold kernelRun3_A
  dsimp only
  suffices H : PlaneInv (n := 4) ix3 (fun g => matOps.invRootFrom (matOps.mul matOps.one)
          (matOps.mul (matOps.mul (planes x1 g) (matOps.expm (planes x0 g))) (planes x1 g))) 4 _ from H g a b g.isLt
  refine PlaneInv.step3 ?_ (PlaneInv.step3 ?_ (PlaneInv.step3 ?_ (PlaneInv.step3 ?_ (PlaneInv.nil _ _ _)
    rfl rfl rfl) rfl rfl rfl) rfl rfl rfl) rfl rfl rfl
  · exact cut3 hX 3 (by omega) rfl rfl slices_S128x128_o96_96_S32x32 shapeCasts_S32x32_S1x32x32
  · exact cut3 hX 2 (by omega) rfl rfl slices_S128x128_o64_64_S32x32 shapeCasts_S32x32_S1x32x32
  · exact cut3 hX 1 (by omega) rfl rfl slices_S128x128_o32_32_S32x32 shapeCasts_S32x32_S1x32x32
  · exact cut3 hX 0 (by omega) rfl rfl slices_S128x128_o0_0_S32x32 shapeCasts_S32x32_S1x32x32

/-- The second output: the square root of the given mean. -/
theorem out3_root (g : Fin 4) (a b : Fin 32) :
    out3_A_4 c i arg1 harg1 arg2 harg2 arg3 harg3 arg4 harg4 arg5 harg5 arg6 harg6 x0 x1 x2 (ix3 g a b)
      = matOps.rootOf (planes x2 g) a b := by
  have hX := word3_1 c arg1 harg1 arg2 harg2 arg3 harg3 arg6 x0 x1 x2
  rw [read3_2, root_bd] at hX
  unfold out3_A_4
  rw [View.read_writes_eq_canon _ _ _ (cover3_A_4 c i arg1 harg1 arg2 harg2 arg3 harg3 arg4 harg4 arg5 harg5 arg6 harg6 x0 x1 x2)]
  unfold kernelRun3_A
  dsimp only
  suffices H : PlaneInv (n := 4) ix3 (fun g => matOps.rootOf (planes x2 g)) 4 _ from H g a b g.isLt
  refine PlaneInv.step3 ?_ (PlaneInv.step3 ?_ (PlaneInv.step3 ?_ (PlaneInv.step3 ?_ (PlaneInv.nil _ _ _)
    rfl rfl rfl) rfl rfl rfl) rfl rfl rfl) rfl rfl rfl
  · exact cut3 hX 3 (by omega) rfl rfl slices_S128x128_o96_96_S32x32 shapeCasts_S32x32_S1x32x32
  · exact cut3 hX 2 (by omega) rfl rfl slices_S128x128_o64_64_S32x32 shapeCasts_S32x32_S1x32x32
  · exact cut3 hX 1 (by omega) rfl rfl slices_S128x128_o32_32_S32x32 shapeCasts_S32x32_S1x32x32
  · exact cut3 hX 0 (by omega) rfl rfl slices_S128x128_o0_0_S32x32 shapeCasts_S32x32_S1x32x32

end

end Cert.Spd
end
-- ==== Proof.Arr.lean ====
/-
  The arrays after the calls that leave every block at once: the square roots of the batch mean and of the running mean, and
  the result.
-/
module

public import proofs.«01_k».proof.Proof.Reg2
public import proofs.«01_k».proof.Proof.Reg3
public import Idealize.ShloMosaic.Lib.Pipeline.ValueKit.Geometry

@[expose] public section

noncomputable section

namespace Cert.Spd

open Idealize.ShloMosaic Idealize.ShloMosaic.TcCoe Idealize.SL.Sem
open Cert.KernelIdeal Cert.KernelIdeal.Gen

/-- Matrix `n` of channel `ch` of the batch. -/
def mtx (X : S4096x4x32x32.Idx → EReal) (ch : Fin 4) : ℕ → Mat :=
  fun n a b => if h : n < 4096 then X (ix4 ⟨n, h⟩ ch a b) else 0

theorem mtx_lt (X : S4096x4x32x32.Idx → EReal) (ch : Fin 4) (n : Fin 4096) (a b : Fin 32) : mtx X ch n a b = X (ix4 n ch a b) :=
  dif_pos n.isLt

theorem idx4_0 : ∀ t : Fin cfg4.N, win4_0.index t = ![64 * (t.val / 256) + t.val % 64, t.val / 64 % 4, 0, 0] :=
  (by decide +kernel : ∀ t : Fin grid4.N, _)
theorem idx4_1 : ∀ t : Fin cfg4.N, win4_1.index t = ![t.val / 64 % 4, 0, 0] := (by decide +kernel : ∀ t : Fin grid4.N, _)
theorem idx4_2 : ∀ t : Fin cfg4.N, win4_2.index t = ![t.val / 64 % 4, 0, 0] := (by decide +kernel : ∀ t : Fin grid4.N, _)
theorem idx4_3 : ∀ t : Fin cfg4.N, win4_3.index t = ![t.val / 64 % 4, 0, 0] := (by decide +kernel : ∀ t : Fin grid4.N, _)
theorem idx4_4 : ∀ t : Fin cfg4.N, win4_4.index t = ![64 * (t.val / 256) + t.val % 64, t.val / 64 % 4, 0, 0] :=
  (by decide +kernel : ∀ t : Fin grid4.N, _)

/-- Where a block's elements lie in the whole arrays of the last call. -/
theorem emb4_0 (t : Fin cfg4.N) (ch : Fin 4) (hc : ch.val = t.val / 64 % 4) (g : Fin 32) (n : Fin 4096)
    (hn : n.val = (64 * (t.val / 256) + t.val % 64) * 32 + g.val) (i j : Fin 32) :
    (win4_0.blk t).view.emb (ix4 g 0 i j) = (ix4 n ch i j : S4096x4x32x32.Idx) := by blk_ext [idx4_0, hc, hn]
theorem emb4_1 (t : Fin cfg4.N) (ch : Fin 4) (hc : ch.val = t.val / 64 % 4) (j : S1x256x256.Idx) :
    (win4_1.blk t).view.emb j = (ix3 ch (j 1) (j 2) : S4x256x256.Idx) := by blk_ext [idx4_1, hc]
theorem emb4_2 (t : Fin cfg4.N) (ch : Fin 4) (hc : ch.val = t.val / 64 % 4) (j : S1x256x256.Idx) :
    (win4_2.blk t).view.emb j = (ix3 ch (j 1) (j 2) : S4x256x256.Idx) := by blk_ext [idx4_2, hc]
theorem emb4_3 (t : Fin cfg4.N) (ch : Fin 4) (hc : ch.val = t.val / 64 % 4) :
    (win4_3.blk t).view.emb (ix3 0 0 0) = (ix3 ch 0 0 : S4x8x128.Idx) := by blk_ext [idx4_3, hc]
theorem emb4_4 (t : Fin cfg4.N) (ch : Fin 4) (hc : ch.val = t.val / 64 % 4) (g : Fin 32) (n : Fin 4096)
    (hn : n.val = (64 * (t.val / 256) + t.val % 64) * 32 + g.val) (i j : Fin 32) :
    (win4_4.blk t).view.emb (ix4 g 0 i j) = (ix4 n ch i j : S4096x4x32x32.Idx) := by blk_ext [idx4_4, hc, hn]

/-- The one block of the calls on four matrices is the whole array. -/
theorem emb1_0 (t : Fin cfg1.N) (j : S4x32x32.Idx) : (win1_0.blk t).view.emb j = j := by
  blk_ext [(by decide +kernel : ∀ t : Fin grid1.N, win1_0.index t = ![0, 0, 0]) t]
theorem emb1_1 (t : Fin cfg1.N) (j : S4x32x32.Idx) : (win1_1.blk t).view.emb j = j := by
  blk_ext [(by decide +kernel : ∀ t : Fin grid1.N, win1_1.index t = ![0, 0, 0]) t]
theorem emb1_2 (t : Fin cfg1.N) (j : S4x32x32.Idx) : (win1_2.blk t).view.emb j = j := by
  blk_ext [(by decide +kernel : ∀ t : Fin grid1.N, win1_2.index t = ![0, 0, 0]) t]
theorem emb3_0 (t : Fin cfg3.N) (j : S4x32x32.Idx) : (win3_0.blk t).view.emb j = j := by
  blk_ext [(by decide +kernel : ∀ t : Fin grid3.N, win3_0.index t = ![0, 0, 0]) t]
theorem emb3_1 (t : Fin cfg3.N) (j : S4x32x32.Idx) : (win3_1.blk t).view.emb j = j := by
  blk_ext [(by decide +kernel : ∀ t : Fin grid3.N, win3_1.index t = ![0, 0, 0]) t]
theorem emb3_2 (t : Fin cfg3.N) (j : S4x32x32.Idx) : (win3_2.blk t).view.emb j = j := by
  blk_ext [(by decide +kernel : ∀ t : Fin grid3.N, win3_2.index t = ![0, 0, 0]) t]
theorem emb3_3 (t : Fin cfg3.N) (j : S4x32x32.Idx) : (win3_3.blk t).view.emb j = j := by
  blk_ext [(by decide +kernel : ∀ t : Fin grid3.N, win3_3.index t = ![0, 0, 0]) t]
theorem emb3_4 (t : Fin cfg3.N) (j : S4x32x32.Idx) : (win3_4.blk t).view.emb j = j := by
  blk_ext [(by decide +kernel : ∀ t : Fin grid3.N, win3_4.index t = ![0, 0, 0]) t]

section
variable (V : (c : Dev nD) → (b : Ref sig .tc) → Buf (Elt Ideal) ((c : Thread nD τ).loc b)) (c : Dev nD)

/-- The result after the last call, in terms of what the call finds in its operands. -/
theorem final4 (W Vm : Fin 4 → Mat) (X : S4096x4x32x32.Idx → EReal) (s : S4x8x128.Idx → EReal)
    (hX : V c main_arg0 = X) (hs : V c main_v68 = s)
    (w v : S4x256x256.Idx → EReal) (ew : V c main_v54 = w) (ev : V c main_v66 = v)
    (hW : ∀ ch r cc, w (ix3 ch r cc) = bd (fun _ => W ch) (ix2 r cc)) (hV : ∀ ch r cc, v (ix3 ch r cc) = bd (fun _ => Vm ch) (ix2 r cc)) :
    (dat4 V c).arrAt 4 cfg4.N = fun j : S4096x4x32x32.Idx =>
      matOps.powOf (s (ix3 (j 1) 0 0)) (Vm (j 1)) (matOps.mul (matOps.mul (W (j 1)) (mtx X (j 1) (j 0).val)) (W (j 1))) (j 2) (j 3) := by
  refine (dat4 V c).arrAt_eq_of_covers 4 _ (by decide +kernel) fun t hf y => ?_
  have ht : t.val < 512 := Nat.lt_of_lt_of_eq t.isLt N_4
  obtain ⟨g, z, a, b, rfl⟩ : ∃ (g : Fin 32) (z : Fin 1) (a b : Fin 32), y = ix4 g z a b := ⟨y 0, y 1, y 2, y 3, eq_ix4 y⟩
  obtain rfl : z = 0 := Subsingleton.elim _ _
  obtain ⟨ch, hc⟩ : ∃ ch : Fin 4, ch.val = t.val / 64 % 4 := ⟨⟨_, Nat.mod_lt _ (by decide)⟩, rfl⟩
  obtain ⟨n, hn⟩ : ∃ n : Fin 4096, n.val = (64 * (t.val / 256) + t.val % 64) * 32 + g.val := ⟨⟨_, by omega⟩, rfl⟩
  have h1 : iblk4 V c 1 t = up (bd fun _ => W ch) := funext fun j =>
    ((congrFun ew _).trans (congrArg w (emb4_1 t ch hc j))).trans (hW ch (j 1) (j 2))
  have h2 : iblk4 V c 2 t = up (bd fun _ => Vm ch) := funext fun j =>
    ((congrFun ev _).trans (congrArg v (emb4_2 t ch hc j))).trans (hV ch (j 1) (j 2))
  have h3 : iblk4 V c 3 t (ix3 0 0 0) = s (ix3 ch 0 0) := (congrFun hs _).trans (congrArg s (emb4_3 t ch hc))
  have h0 : planes4 (iblk4 V c 0 t) g = mtx X ch n.val := by
    funext i j
    rw [planes4_lt, mtx_lt]
    exact (congrFun hX _).trans (congrArg X (emb4_0 t ch hc g n hn i j))
  have h := out4_pow c (ms4_0 t) (hs4_0 t) (ms4_1 t) (hs4_1 t) (ms4_2 t) (hs4_2 t) (ms4_3 t) (hs4_3 t) (ms4_4 t) (hs4_4 t) scM4_0
    (Memref.isWhole_whole _) (iblk4 V c 0 t) (iblk4 V c 1 t) (iblk4 V c 2 t) (iblk4 V c 3 t) (grid4.coords t) (W ch) (Vm ch) h1 h2 g a b
  rw [h3, h0] at h
  exact ((congrFun (after4_4 V c t) (ix4 g 0 a b)).trans h).trans
    (congrArg (fun j : S4096x4x32x32.Idx =>
      matOps.powOf (s (ix3 (j 1) 0 0)) (Vm (j 1)) (matOps.mul (matOps.mul (W (j 1)) (mtx X (j 1) (j 0).val)) (W (j 1))) (j 2) (j 3))
      (emb4_4 t ch hc g n hn a b)).symm

/-- The square root of the batch mean, in terms of the array the call finds. -/
theorem final1_root (x : S4x32x32.Idx → EReal) (hx : V c main_v5 = x) :
    (dat1 V c).arrAt 1 cfg1.N = fun j : S4x32x32.Idx => matOps.rootOf (planes x (j 0).val) (j 1) (j 2) := by
  refine (dat1 V c).arrAt_eq_of_covers 1 _ (by decide +kernel) fun t hf y => ?_
  have hb : iblk1 V c 0 t = x := funext fun j => (congrFun hx _).trans (congrArg x (emb1_0 t j))
  obtain ⟨g, a, b, rfl⟩ : ∃ (g : Fin 4) (a b : Fin 32), y = ix3 g a b := ⟨y 0, y 1, y 2, eq_ix3 y⟩
  have h := out1_root c (grid1.coords t) (ms1_0 t) (hs1_0 t) (ms1_1 t) (hs1_1 t) (ms1_2 t) (hs1_2 t) scM1_0 (Memref.isWhole_whole _) (iblk1 V c 0 t) g a b
  rw [hb] at h
  refine ((congrFun (after1_1 V c t) (ix3 g a b)).trans ?_).trans
    (congrArg (fun j : S4x32x32.Idx => matOps.rootOf (planes x (j 0).val) (j 1) (j 2)) (emb1_1 t (ix3 g a b))).symm
  unfold outsAt1
  rw [hb]
  exact h

/-- The inverse square root of the batch mean. -/
theorem final1_iroot (x : S4x32x32.Idx → EReal) (hx : V c main_v5 = x) :
    (dat1 V c).arrAt 2 cfg1.N
      = fun j : S4x32x32.Idx => matOps.invRootFrom (matOps.mul matOps.one) (planes x (j 0).val) (j 1) (j 2) := by
  refine (dat1 V c).arrAt_eq_of_covers 2 _ (by decide +kernel) fun t hf y => ?_
  have hb : iblk1 V c 0 t = x := funext fun j => (congrFun hx _).trans (congrArg x (emb1_0 t j))
  obtain ⟨g, a, b, rfl⟩ : ∃ (g : Fin 4) (a b : Fin 32), y = ix3 g a b := ⟨y 0, y 1, y 2, eq_ix3 y⟩
  have h := out1_iroot c (grid1.coords t) (ms1_0 t) (hs1_0 t) (ms1_1 t) (hs1_1 t) (ms1_2 t) (hs1_2 t) scM1_0 (Memref.isWhole_whole _) (iblk1 V c 0 t) g a b
  rw [hb] at h
  refine ((congrFun (after1_2 V c t) (ix3 g a b)).trans ?_).trans
    (congrArg (fun j : S4x32x32.Idx => matOps.invRootFrom (matOps.mul matOps.one) (planes x (j 0).val) (j 1) (j 2)) (emb1_2 t (ix3 g a b))).symm
  unfold outsAt1
  rw [hb]
  exact h

/-- The inverse square root of the running mean: the batch mean moved along the tangent matrix. -/
theorem final3_iroot (x y : S4x32x32.Idx → EReal) (hx : V c main_v30 = x) (hy : V c main_v6_0 = y) :
    (dat3 V c).arrAt 3 cfg3.N = fun j : S4x32x32.Idx => matOps.invRootFrom (matOps.mul matOps.one)
      (matOps.mul (matOps.mul (planes y (j 0).val) (matOps.expm (planes x (j 0).val))) (planes y (j 0).val)) (j 1) (j 2) := by
  refine (dat3 V c).arrAt_eq_of_covers 3 _ (by decide +kernel) fun t hf k => ?_
  have hb : iblk3 V c 0 t = x := funext fun j => (congrFun hx _).trans (congrArg x (emb3_0 t j))
  have hd : iblk3 V c 1 t = y := funext fun j => (congrFun hy _).trans (congrArg y (emb3_1 t j))
  obtain ⟨g, a, b, rfl⟩ : ∃ (g : Fin 4) (a b : Fin 32), k = ix3 g a b := ⟨k 0, k 1, k 2, eq_ix3 k⟩
  have h := out3_iroot c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) g a b
  rw [hb, hd] at h
  refine ((congrFun (after3_3 V c t) (ix3 g a b)).trans ?_).trans
    (congrArg (fun j : S4x32x32.Idx => matOps.invRootFrom (matOps.mul matOps.one)
      (matOps.mul (matOps.mul (planes y (j 0).val) (matOps.expm (planes x (j 0).val))) (planes y (j 0).val)) (j 1) (j 2)) (emb3_3 t (ix3 g a b))).symm
  unfold outsAt3
  rw [hb, hd]
  exact h

/-- The square root of the given mean. -/
theorem final3_root (x : S4x32x32.Idx → EReal) (hx : V c main_arg3 = x) :
    (dat3 V c).arrAt 4 cfg3.N = fun j : S4x32x32.Idx => matOps.rootOf (planes x (j 0).val) (j 1) (j 2) := by
  refine (dat3 V c).arrAt_eq_of_covers 4 _ (by decide +kernel) fun t hf k => ?_
  have hb : iblk3 V c 2 t = x := funext fun j => (congrFun hx _).trans (congrArg x (emb3_2 t j))
  obtain ⟨g, a, b, rfl⟩ : ∃ (g : Fin 4) (a b : Fin 32), k = ix3 g a b := ⟨k 0, k 1, k 2, eq_ix3 k⟩
  have h := out3_root c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) g a b
  rw [hb] at h
  refine ((congrFun (after3_4 V c t) (ix3 g a b)).trans ?_).trans
    (congrArg (fun j : S4x32x32.Idx => matOps.rootOf (planes x (j 0).val) (j 1) (j 2)) (emb3_4 t (ix3 g a b))).symm
  unfold outsAt3
  rw [hb]
  exact h

end

end Cert.Spd
end
-- ==== Proof.ArrSum.lean ====
/-
  The arrays after the calls that accumulate along a run of grid points: the sums of the batch, and the sums of the
  logarithms of the whitened matrices and of their squares.
-/
module

public import proofs.«01_k».proof.Proof.Arr

@[expose] public section

noncomputable section

namespace Cert.Spd

open Idealize.ShloMosaic Idealize.ShloMosaic.TcCoe Idealize.SL.Sem
open Cert.KernelIdeal Cert.KernelIdeal.Gen

/-- A value that is set at the first point of every run of `n` points and added to at the others is the sum over the run so far. -/
theorem run_sum {n N : ℕ} (f : (t : ℕ) → t < N → EReal) (g : ℕ → EReal) (hA : ∀ t h, t % n = 0 → f t h = g t)
    (hB : ∀ t h, t % n ≠ 0 → f t h = f (t - 1) (Nat.lt_of_le_of_lt (Nat.sub_le _ _) h) + g t) :
    ∀ t h, f t h = ∑ u ∈ Finset.range (t % n + 1), g (t - t % n + u)
  | 0, h => by
    rw [hA 0 h (Nat.zero_mod _)]
    simp
  | t + 1, h => by
    by_cases h0 : (t + 1) % n = 0
    · rw [hA _ h h0, h0]
      simp
    · have e : (t + 1) % n = t % n + 1 := by
        have hd : t + 1 = n * (t / n) + (t % n + 1) := by have := Nat.div_add_mod t n; omega
        rcases Nat.eq_zero_or_pos n with rfl | hn
        · simp
        · rw [hd, Nat.mul_add_mod] at h0 ⊢
          have := Nat.mod_lt t hn
          rcases Nat.lt_or_ge (t % n + 1) n with hl | hg
          · rw [Nat.mod_eq_of_lt hl]
          · rw [show t % n + 1 = n by omega, Nat.mod_self] at h0
            exact absurd rfl h0
      rw [hB _ h h0, run_sum f g hA hB (t + 1 - 1), e, Finset.sum_range_succ _ (t % n + 1)]
      have hle : t % n ≤ t := Nat.mod_le _ _
      show ∑ u ∈ Finset.range (t % n + 1), g (t - t % n + u) + g (t + 1) = _
      rw [show t + 1 - (t % n + 1) = t - t % n by omega, show t - t % n + (t % n + 1) = t + 1 by omega]

/-- A sum over `a * b` terms in `a` groups of `b`. -/
theorem sum_groups {M : Type} [AddCommMonoid M] (f : ℕ → M) (a b : ℕ) :
    ∑ k ∈ Finset.range (a * b), f k = ∑ i ∈ Finset.range a, ∑ j ∈ Finset.range b, f (i * b + j) := by
  induction a with
  | zero => simp
  | succ a ih => rw [Nat.succ_mul, Finset.sum_range_add, ih, Finset.sum_range_succ]

/-- Row `k` of the reshaped batch. -/
def row (x : S4096x4096.Idx → EReal) (k : ℕ) (n : Fin 4096) : EReal := if h : k < 4096 then x (ix2 ⟨k, h⟩ n) else 0

/-- The sum of column `n` of a block. -/
def colSum (x0 : Vec Ideal S512x4096 .f32) (n : Fin 4096) : EReal := ∑ r : Fin 512, x0 (ix2 r n)

section
variable (c : Dev nD) (i : grid0.Coords) (arg2 : Memref sig .tc .vmem S512x4096 .f32) (harg2 : arg2.IsWhole)
  (arg3 : Memref sig .tc .vmem S1x1x4096 .f32) (harg3 : arg3.IsWhole) (x0 : Vec Ideal S512x4096 .f32)

/-- The column sums of one block added to what is there. -/
theorem pay0 (w : Vec Ideal S1x1x4096 .f32) (n : Fin 4096) :
    k0_pay2 w x0 (ix3 0 0 n) = w (ix3 0 0 n) + colSum x0 n := by
  unfold k0_pay2
  simp only [shapeCast_self, addf_apply]
  rw [shapeCast_apply _ _ _ (ix2 0 n) (by simp [Shape.rowMajor_val_three, Shape.rowMajor_val_two]),
    shapeCast_apply _ _ _ (ix1 n) (by simp [Shape.rowMajor_val_one, Shape.rowMajor_val_two])]
  simp only [pointwise]
  rfl

/-- A first point leaves the column sums of its block. -/
theorem out0_A (hc0 : cond0_0 i) (n : Fin 4096) :
    out0_A_1 c i arg2 harg2 arg3 harg3 hc0 x0 (ix3 0 0 n) = colSum x0 n := by
  unfold out0_A_1
  rw [View.read_writes_eq_canon _ _ _ (cover0_A_1 c i arg2 harg2 arg3 harg3 hc0 x0)]
  unfold kernelRun0_A
  dsimp only
  have hz : (![0, 0, 0] : Fin 3 → ℕ) = fun _ => 0 := funext fun a => by fin_cases a <;> rfl
  have hz2 : (![0, 0] : Fin 2 → ℕ) = fun _ => 0 := funext fun a => by fin_cases a <;> rfl
  rw [View.canon_cons_unit_zero (S := S1x1x4096) hz]
  unfold kernelRun0_A.sl.v3 kernelRun0_A.sl.H1_1
  rw [View.readCov_unit_zero (S := S1x1x4096) _ hz, View.readAt_eq_ld, harg2.read_unread, View.ld_unit_zero (S := S512x4096) hz2, pay0]
  simp only [k0_pay1, pointwise]
  rw [zero_add]

/-- A later point adds them to what is there. -/
theorem out0_B (hc0 : ¬cond0_0 i) (xo : Vec Ideal S1x1x4096 .f32) (n : Fin 4096) :
    out0_B_1 c i arg2 harg2 arg3 harg3 hc0 x0 xo (ix3 0 0 n) = xo (ix3 0 0 n) + colSum x0 n := by
  unfold out0_B_1
  rw [View.read_writes_eq_canon _ _ _ (cover0_B_1 c i arg2 harg2 arg3 harg3 hc0 x0 xo)]
  unfold kernelRun0_B
  dsimp only
  have hz : (![0, 0, 0] : Fin 3 → ℕ) = fun _ => 0 := funext fun a => by fin_cases a <;> rfl
  have hz2 : (![0, 0] : Fin 2 → ℕ) = fun _ => 0 := funext fun a => by fin_cases a <;> rfl
  rw [View.canon_unit_zero (S := S1x1x4096) hz]
  rw [View.readAt_eq_ld, View.readAt_eq_ld, harg2.read_unread, harg3.read_unread, View.ld_unit_zero (S := S512x4096) hz2,
    View.ld_unit_zero (S := S1x1x4096) hz, pay0]

end

theorem idx0_0 : ∀ t : Fin cfg0.N, win0_0.index t = ![t.val, 0] := (by decide +kernel : ∀ t : Fin grid0.N, _)
theorem idx0_1 : ∀ t : Fin cfg0.N, win0_1.index t = ![t.val / 4, 0, 0] := (by decide +kernel : ∀ t : Fin grid0.N, _)
theorem idx2_0 : ∀ t : Fin cfg2.N, win2_0.index t = ![64 * (t.val / 256) + t.val % 64, t.val / 64 % 4, 0, 0] :=
  (by decide +kernel : ∀ t : Fin grid2.N, _)
theorem idx2_1 : ∀ t : Fin cfg2.N, win2_1.index t = ![t.val / 64 % 4, 0, 0] := (by decide +kernel : ∀ t : Fin grid2.N, _)
theorem idx2_2 : ∀ t : Fin cfg2.N, win2_2.index t = ![t.val / 256, t.val / 64 % 4, 0, 0] := (by decide +kernel : ∀ t : Fin grid2.N, _)
theorem idx2_3 : ∀ t : Fin cfg2.N, win2_3.index t = ![t.val / 256, t.val / 64 % 4, 0, 0] := (by decide +kernel : ∀ t : Fin grid2.N, _)

/-- Where a block's elements lie in the whole arrays. -/
theorem emb0_0 (t : Fin cfg0.N) (r : Fin 512) (k : Fin 4096) (hk : k.val = t.val * 512 + r.val) (n : Fin 4096) :
    (win0_0.blk t).view.emb (ix2 r n) = (ix2 k n : S4096x4096.Idx) := by blk_ext [idx0_0, hk]
theorem emb0_1 (t : Fin cfg0.N) (p : Fin 2) (hp : p.val = t.val / 4) (n : Fin 4096) :
    (win0_1.blk t).view.emb (ix3 0 0 n) = (ix3 p 0 n : S2x1x4096.Idx) := by blk_ext [idx0_1, hp]
theorem emb2_0 (t : Fin cfg2.N) (ch : Fin 4) (hc : ch.val = t.val / 64 % 4) (g : Fin 32) (n : Fin 4096)
    (hn : n.val = (64 * (t.val / 256) + t.val % 64) * 32 + g.val) (i j : Fin 32) :
    (win2_0.blk t).view.emb (ix4 g 0 i j) = (ix4 n ch i j : S4096x4x32x32.Idx) := by blk_ext [idx2_0, hc, hn]
theorem emb2_1 (t : Fin cfg2.N) (ch : Fin 4) (hc : ch.val = t.val / 64 % 4) (j : S1x256x256.Idx) :
    (win2_1.blk t).view.emb j = (ix3 ch (j 1) (j 2) : S4x256x256.Idx) := by blk_ext [idx2_1, hc]
theorem emb2_2 (t : Fin cfg2.N) (p : Fin 2) (hp : p.val = t.val / 256) (ch : Fin 4) (hc : ch.val = t.val / 64 % 4) (r cc : Fin 256) :
    (win2_2.blk t).view.emb (ix4 0 0 r cc) = (ix4 p ch r cc : S2x4x256x256.Idx) := by blk_ext [idx2_2, hp, hc]
theorem emb2_3 (t : Fin cfg2.N) (p : Fin 2) (hp : p.val = t.val / 256) (ch : Fin 4) (hc : ch.val = t.val / 64 % 4) (r : Fin 8) (cc : Fin 256) :
    (win2_3.blk t).view.emb (ix4 0 0 r cc) = (ix4 p ch r cc : S2x4x8x256.Idx) := by blk_ext [idx2_3, hp, hc]

section
variable (V : (c : Dev nD) → (b : Ref sig .tc) → Buf (Elt Ideal) ((c : Thread nD τ).loc b)) (c : Dev nD)

/-- The sums of the batch, one half in each plane. -/
theorem final0 (x : S4096x4096.Idx → EReal) (hx : V c main_v0 = x) :
    (dat0 V c).arrAt 1 cfg0.N = fun j : S2x1x4096.Idx =>
      ∑ u ∈ Finset.range 4, ∑ r ∈ Finset.range 512, row x ((4 * (j 0).val + u) * 512 + r) (j 2) := by
  have hb : ∀ (t : Fin cfg0.N) (n : Fin 4096), colSum (iblk0 V c 0 t) n = ∑ r ∈ Finset.range 512, row x (t.val * 512 + r) n := by
    intro t n
    have ht : t.val < 8 := Nat.lt_of_lt_of_eq t.isLt N_0
    unfold colSum
    rw [Finset.sum_range]
    refine Finset.sum_congr rfl fun r _ => ?_
    have hk : t.val * 512 + r.val < 4096 := by omega
    rw [row, dif_pos hk]
    exact (congrFun hx _).trans (congrArg x (emb0_0 t r ⟨_, hk⟩ rfl n))
  have hs : ∀ (n : Fin 4096) (t : ℕ) (h : t < cfg0.N), outsAt0 V c t h (ix3 0 0 n)
      = ∑ u ∈ Finset.range (t % 4 + 1), ∑ r ∈ Finset.range 512, row x ((t - t % 4 + u) * 512 + r) n := fun n =>
    run_sum (fun t h => outsAt0 V c t h (ix3 0 0 n)) (fun t => ∑ r ∈ Finset.range 512, row x (t * 512 + r) n)
      (fun t h h0 => by
        show outsAt0 V c t h (ix3 0 0 n) = _
        rw [outsAt0_A V c ⟨t, h⟩ h0, out0_A]
        exact hb ⟨t, h⟩ n)
      (fun t h h0 => by
        show outsAt0 V c t h (ix3 0 0 n) = _
        rw [outsAt0_B V c ⟨t, h⟩ h0, out0_B]
        exact congrArg _ (hb ⟨t, h⟩ n))
  refine (dat0 V c).arrAt_eq_of_covers 1 _ (by decide +kernel) fun t hf y => ?_
  have ht : t.val < 8 := Nat.lt_of_lt_of_eq t.isLt N_0
  have h3 := (flush0_1 t).mp hf
  obtain ⟨z, z', n, rfl⟩ : ∃ (z z' : Fin 1) (n : Fin 4096), y = ix3 z z' n := ⟨y 0, y 1, y 2, eq_ix3 y⟩
  obtain rfl : z = 0 := Subsingleton.elim _ _
  obtain rfl : z' = 0 := Subsingleton.elim _ _
  obtain ⟨p, hp⟩ : ∃ p : Fin 2, p.val = t.val / 4 := ⟨⟨_, by omega⟩, rfl⟩
  refine ((congrFun (after0_1 V c t) (ix3 0 0 n)).trans (hs n t.val t.isLt)).trans ?_
  refine Eq.trans ?_ (congrArg (fun j : S2x1x4096.Idx =>
      ∑ u ∈ Finset.range 4, ∑ r ∈ Finset.range 512, row x ((4 * (j 0).val + u) * 512 + r) (j 2)) (emb0_1 t p hp n)).symm
  show _ = ∑ u ∈ Finset.range 4, ∑ r ∈ Finset.range 512, row x ((4 * p.val + u) * 512 + r) n
  rw [h3, hp, show t.val - 3 = 4 * (t.val / 4) by omega]

/-- A block of a block-diagonal tensor only depends on the family at its block row. -/
theorem bd_congr {f f' : ℕ → Mat} (h : ∀ g, g < 8 → f g = f' g) : (bd f : Sq 256) = bd f' := by
  funext j
  have hj : (j 0).val / 32 < 8 := by have : (j 0).val < 256 := (j 0).isLt; omega
  simp only [bd, h _ hj]

/-- The logarithms of eight consecutive whitened matrices of a channel, from matrix `b` on. -/
def logs (W : Fin 4 → Mat) (X : S4096x4x32x32.Idx → EReal) (ch : Fin 4) (b : ℕ) : Sq 256 := bd fun g => logWhite (W ch) (mtx X ch (b + g))

/-- The channel of point `t`. -/
def chOf (t : ℕ) : Fin 4 := ⟨t / 64 % 4, Nat.mod_lt _ (by decide)⟩

/-- The first matrix of point `t`. -/
def firstOf (t : ℕ) : ℕ := (64 * (t / 256) + t % 64) * 32

section
variable (W : Fin 4 → Mat) (X : S4096x4x32x32.Idx → EReal) (w : S4x256x256.Idx → EReal)
  (hX : V c main_arg0 = X) (ew : V c main_v18 = w) (hW : ∀ ch r cc, w (ix3 ch r cc) = bd (fun _ => W ch) (ix2 r cc))
include hX ew hW

theorem blk2_W (t : Fin cfg2.N) : iblk2 V c 1 t = up (bd fun _ => W (chOf t.val)) := funext fun j =>
  ((congrFun ew _).trans (congrArg w (emb2_1 t _ rfl j))).trans (hW _ (j 1) (j 2))

theorem blk2_X (t : Fin cfg2.N) (q : Fin 4) : four (W (chOf t.val)) (iblk2 V c 0 t) q = logs W X (chOf t.val) (firstOf t.val + 8 * q.val) := by
  have ht : t.val < 512 := Nat.lt_of_lt_of_eq t.isLt N_2
  refine bd_congr fun g hg => congrArg (logWhite _) ?_
  have hg' : 8 * q.val + g < 32 := by omega
  have hn : firstOf t.val + 8 * q.val + g < 4096 := by unfold firstOf; omega
  funext i j
  rw [planes4_lt _ ⟨_, hg'⟩, mtx, dif_pos hn]
  exact (congrFun hX _).trans (congrArg X (emb2_0 t _ rfl ⟨_, hg'⟩ ⟨_, hn⟩ (by unfold firstOf; dsimp only; omega) i j))

theorem sums2_xt (r cc : Fin 256) (t : ℕ) (h : t < cfg2.N) : (outsAt2 V c t h).1 (ix4 0 0 r cc)
    = ∑ u ∈ Finset.range (t % 64 + 1), ∑ q : Fin 4, logs W X (chOf (t - t % 64 + u)) (firstOf (t - t % 64 + u) + 8 * q.val) (ix2 r cc) :=
  run_sum (fun t h => (outsAt2 V c t h).1 (ix4 0 0 r cc)) (fun t => ∑ q : Fin 4, logs W X (chOf t) (firstOf t + 8 * q.val) (ix2 r cc))
    (fun t h h0 => by
      show (outsAt2 V c t h).1 (ix4 0 0 r cc) = _
      rw [outsAt2_A V c ⟨t, h⟩ h0]
      dsimp only
      rw [out2_A_xt _ _ _ _ _ _ _ _ _ _ _ _ _ _ (W (chOf t)) (blk2_W V c W X w hX ew hW ⟨t, h⟩)]
      exact Finset.sum_congr rfl fun q _ => congrFun (blk2_X V c W X w hX ew hW ⟨t, h⟩ q) _)
    (fun t h h0 => by
      show (outsAt2 V c t h).1 (ix4 0 0 r cc) = _
      rw [outsAt2_B V c ⟨t, h⟩ h0]
      dsimp only
      rw [out2_B_xt _ _ _ _ _ _ _ _ _ _ _ _ _ _ (W (chOf t)) (blk2_W V c W X w hX ew hW ⟨t, h⟩)]
      exact congrArg _ (Finset.sum_congr rfl fun q _ => congrFun (blk2_X V c W X w hX ew hW ⟨t, h⟩ q) _)) t h

theorem sums2_nrm (k : Fin 8) (cc : Fin 256) (t : ℕ) (h : t < cfg2.N) : (outsAt2 V c t h).2 (ix4 0 0 k cc)
    = ∑ u ∈ Finset.range (t % 64 + 1), ∑ q : Fin 4, rows8 (logs W X (chOf (t - t % 64 + u)) (firstOf (t - t % 64 + u) + 8 * q.val)) (ix2 k cc) :=
  run_sum (fun t h => (outsAt2 V c t h).2 (ix4 0 0 k cc)) (fun t => ∑ q : Fin 4, rows8 (logs W X (chOf t) (firstOf t + 8 * q.val)) (ix2 k cc))
    (fun t h h0 => by
      show (outsAt2 V c t h).2 (ix4 0 0 k cc) = _
      rw [outsAt2_A V c ⟨t, h⟩ h0]
      dsimp only
      rw [out2_A_nrm _ _ _ _ _ _ _ _ _ _ _ _ _ _ (W (chOf t)) (blk2_W V c W X w hX ew hW ⟨t, h⟩)]
      exact Finset.sum_congr rfl fun q _ => congrArg (fun Y : Sq 256 => rows8 Y (ix2 k cc)) (blk2_X V c W X w hX ew hW ⟨t, h⟩ q))
    (fun t h h0 => by
      show (outsAt2 V c t h).2 (ix4 0 0 k cc) = _
      rw [outsAt2_B V c ⟨t, h⟩ h0]
      dsimp only
      rw [out2_B_nrm _ _ _ _ _ _ _ _ _ _ _ _ _ _ (W (chOf t)) (blk2_W V c W X w hX ew hW ⟨t, h⟩)]
      exact congrArg _ (Finset.sum_congr rfl fun q _ => congrArg (fun Y : Sq 256 => rows8 Y (ix2 k cc)) (blk2_X V c W X w hX ew hW ⟨t, h⟩ q))) t h

/-- The sums of the logarithms, one half of the batch in each plane. -/
theorem final2_xt : (dat2 V c).arrAt 2 cfg2.N = fun j : S2x4x256x256.Idx =>
    ∑ u ∈ Finset.range 64, ∑ q : Fin 4, logs W X (j 1) ((64 * (j 0).val + u) * 32 + 8 * q.val) (ix2 (j 2) (j 3)) := by
  refine (dat2 V c).arrAt_eq_of_covers 2 _ (by decide +kernel) fun t hf y => ?_
  have ht : t.val < 512 := Nat.lt_of_lt_of_eq t.isLt N_2
  have h3 := (flush2_2 t).mp hf
  obtain ⟨z, z', r, cc, rfl⟩ : ∃ (z z' : Fin 1) (r cc : Fin 256), y = ix4 z z' r cc := ⟨y 0, y 1, y 2, y 3, eq_ix4 y⟩
  obtain rfl : z = 0 := Subsingleton.elim _ _
  obtain rfl : z' = 0 := Subsingleton.elim _ _
  obtain ⟨p, hp⟩ : ∃ p : Fin 2, p.val = t.val / 256 := ⟨⟨_, by omega⟩, rfl⟩
  refine ((congrFun (after2_2 V c t) (ix4 0 0 r cc)).trans (sums2_xt V c W X w hX ew hW r cc t.val t.isLt)).trans ?_
  refine Eq.trans ?_ (congrArg (fun j : S2x4x256x256.Idx =>
    ∑ u ∈ Finset.range 64, ∑ q : Fin 4, logs W X (j 1) ((64 * (j 0).val + u) * 32 + 8 * q.val) (ix2 (j 2) (j 3))) (emb2_2 t p hp (chOf t.val) rfl r cc)).symm
  show _ = ∑ u ∈ Finset.range 64, ∑ q : Fin 4, logs W X (chOf t.val) ((64 * p.val + u) * 32 + 8 * q.val) (ix2 r cc)
  rw [h3]
  refine Finset.sum_congr rfl fun u hu => ?_
  have hu := Finset.mem_range.mp hu
  rw [show chOf (t.val - 63 + u) = chOf t.val from Fin.ext (by unfold chOf; dsimp only; omega),
    show firstOf (t.val - 63 + u) = (64 * p.val + u) * 32 by unfold firstOf; omega]

/-- The sums of their squares. -/
theorem final2_nrm : (dat2 V c).arrAt 3 cfg2.N = fun j : S2x4x8x256.Idx =>
    ∑ u ∈ Finset.range 64, ∑ q : Fin 4, rows8 (logs W X (j 1) ((64 * (j 0).val + u) * 32 + 8 * q.val)) (ix2 (j 2) (j 3)) := by
  refine (dat2 V c).arrAt_eq_of_covers 3 _ (by decide +kernel) fun t hf y => ?_
  have ht : t.val < 512 := Nat.lt_of_lt_of_eq t.isLt N_2
  have h3 := (flush2_3 t).mp hf
  obtain ⟨z, z', k, cc, rfl⟩ : ∃ (z z' : Fin 1) (k : Fin 8) (cc : Fin 256), y = ix4 z z' k cc := ⟨y 0, y 1, y 2, y 3, eq_ix4 y⟩
  obtain rfl : z = 0 := Subsingleton.elim _ _
  obtain rfl : z' = 0 := Subsingleton.elim _ _
  obtain ⟨p, hp⟩ : ∃ p : Fin 2, p.val = t.val / 256 := ⟨⟨_, by omega⟩, rfl⟩
  refine ((congrFun (after2_3 V c t) (ix4 0 0 k cc)).trans (sums2_nrm V c W X w hX ew hW k cc t.val t.isLt)).trans ?_
  refine Eq.trans ?_ (congrArg (fun j : S2x4x8x256.Idx =>
    ∑ u ∈ Finset.range 64, ∑ q : Fin 4, rows8 (logs W X (j 1) ((64 * (j 0).val + u) * 32 + 8 * q.val)) (ix2 (j 2) (j 3))) (emb2_3 t p hp (chOf t.val) rfl k cc)).symm
  show _ = ∑ u ∈ Finset.range 64, ∑ q : Fin 4, rows8 (logs W X (chOf t.val) ((64 * p.val + u) * 32 + 8 * q.val)) (ix2 k cc)
  rw [h3]
  refine Finset.sum_congr rfl fun u hu => ?_
  have hu := Finset.mem_range.mp hu
  rw [show chOf (t.val - 63 + u) = chOf t.val from Fin.ext (by unfold chOf; dsimp only; omega),
    show firstOf (t.val - 63 + u) = (64 * p.val + u) * 32 by unfold firstOf; omega]

end

end

end Cert.Spd
end
-- ==== Proof.Host.lean ====
/-
  The host operations between the calls: the mean of the batch, the packed matrices, the mean of the logarithms, the
  variance and the scale.
-/
module

public import proofs.«01_k».proof.Proof.ArrSum

@[expose] public section

noncomputable section

namespace Cert.Spd

open Idealize.ShloMosaic Idealize.ShloMosaic.TcCoe Idealize.SL.Sem
open Cert.KernelIdeal Cert.KernelIdeal.Gen

/-! ### Sums, in another order -/

/-- A host sum over several axes, the summed indices enumerated by `e`. -/
theorem reduce_enum {s t : Shape} {axes : List (Fin s.rank)} (h : s.ReducesTo axes t) (x : s.Idx → EReal) (init : EReal) (j : t.Idx)
    {ι : Type} [Fintype ι] (e : ι → s.Idx) (he : Function.Injective e) (hd : ∀ k, h.drop (e k) = j)
    (hs : ∀ i, h.drop i = j → ∃ k, e k = i) : Ideal.hostReduceAdd h x init j = init + ∑ k, x (e k) := by
  unfold Ideal.hostReduceAdd
  refine congrArg (init + ·) (Eq.trans ?_ (Finset.sum_map Finset.univ ⟨e, he⟩ x))
  refine Finset.sum_congr (Finset.ext fun i => ?_) fun _ _ => rfl
  simp only [Finset.mem_filter, Finset.mem_univ, true_and, Finset.mem_map, Function.Embedding.coeFn_mk]
  exact ⟨hs i, fun ⟨k, hk⟩ => hk ▸ hd k⟩

/-- A sum over `m * n` indices in `m` groups of `n`. -/
theorem sum_fin_groups {M : Type} [AddCommMonoid M] (m n N : ℕ) (hN : m * n = N) (f : Fin N → M) :
    ∑ k, f k = ∑ i : Fin m, ∑ j : Fin n, f ⟨n * i.val + j.val, hN ▸ (finProdFinEquiv (i, j)).isLt.trans_eq' (by simp [finProdFinEquiv]; omega)⟩ := by
  subst hN
  rw [← Fintype.sum_prod_type', ← Equiv.sum_comp finProdFinEquiv]
  refine Finset.sum_congr rfl fun p _ => congrArg f (Fin.ext ?_)
  simp [finProdFinEquiv]; omega

/-- The sum over the batch in the order of the third call: two halves, sixty-four points each, four packs of eight. -/
theorem sum_batch (f : ℕ → EReal) : ∑ n ∈ Finset.range 4096, f n
    = ∑ h : Fin 2, ∑ u ∈ Finset.range 64, ∑ q : Fin 4, ∑ g : Fin 8, f ((64 * h.val + u) * 32 + 8 * q.val + g.val) := by
  rw [sum_groups f 128 32, sum_groups (fun i => ∑ j ∈ Finset.range 32, f (i * 32 + j)) 2 64, Finset.sum_range]
  refine Finset.sum_congr rfl fun h _ => Finset.sum_congr rfl fun u _ => ?_
  rw [sum_groups _ 4 8, Finset.sum_range]
  refine Finset.sum_congr rfl fun q _ => ?_
  rw [Finset.sum_range]
  refine Finset.sum_congr rfl fun g _ => congrArg f ?_
  omega

/-- An entry of a block-diagonal tensor, by its block row, its block column and its place in the block. -/
theorem bd_at (f : ℕ → Mat) (g g' : Fin 8) (a b : Fin 32) :
    (bd f : Sq 256) (ix2 ⟨32 * g.val + a.val, by omega⟩ ⟨32 * g'.val + b.val, by omega⟩) = if g = g' then f g a b else 0 := by
  have e : ∀ (k : Fin 8) (i : Fin 32), (32 * k.val + i.val) / 32 = k.val ∧ (32 * k.val + i.val) % 32 = i.val := by omega
  show (if (32 * g.val + a.val) / 32 = (32 * g'.val + b.val) / 32 then f ((32 * g.val + a.val) / 32) ⟨(32 * g.val + a.val) % 32, _⟩
    ⟨(32 * g'.val + b.val) % 32, _⟩ else 0) = _
  simp only [(e _ _).1, (e _ _).2, Fin.ext_iff]

/-- The squares of a block-diagonal tensor add up to the squares of its blocks. -/
theorem sum_bd_sq (f : ℕ → Mat) : ∑ r : Fin 256, ∑ cc : Fin 256, (bd f : Sq 256) (ix2 r cc) * (bd f : Sq 256) (ix2 r cc)
    = ∑ g : Fin 8, ∑ a : Fin 32, ∑ b : Fin 32, f g a b * f g a b := by
  rw [sum_fin_groups 8 32 256 rfl]
  refine Finset.sum_congr rfl fun g _ => Finset.sum_congr rfl fun a _ => ?_
  rw [sum_fin_groups 8 32 256 rfl, Finset.sum_eq_single g]
  · refine Finset.sum_congr rfl fun b _ => ?_
    rw [bd_at f g g a b, if_pos rfl]
  · intro g' _ hg
    refine Finset.sum_eq_zero fun b _ => ?_
    rw [bd_at f g g' a b, if_neg fun e => hg e.symm, mul_zero]
  · exact fun h => absurd (Finset.mem_univ _) h

/-- The mean over the batch, of a sum. -/
def mean (s : EReal) : EReal := Ideal.div s (Ideal.ofBits .f32 0x45800000#32)

/-! ### The mean of the batch -/

/-- The mean of the batch from the two halves' sums. -/
def bmOf (x : FVec Ideal S2x1x4096 .f32) : FVec Ideal S4x32x32 .f32 :=
  shapeCast S4x32x32 (Host.divf (Host.reduceAdd x (constant S_ .f32 0x00000000#32) reducesTo_S2x1x4096_S4096_d0_1 h_S_)
    (broadcastInDim S4096 ![] bcast_S_S4096 (constant S_ .f32 0x45800000#32))) shapeCasts_S4096_S4x32x32

theorem ops1_v5 (V : Valuation τ sig (Elt Ideal)) :
    StableHlo.after hostOps1 V (Proc.devRef .tc main_v5) = bmOf (V (Proc.devRef .tc main_v1)) := by
  after_results
  rfl

theorem bmOf_apply (x : FVec Ideal S2x1x4096 .f32) (ch : Fin 4) (a b : Fin 32) :
    bmOf x (ix3 ch a b) = mean (∑ h : Fin 2, x (ix3 h 0 ⟨1024 * ch.val + 32 * a.val + b.val, by omega⟩)) := by
  unfold bmOf mean
  rw [shapeCast_apply _ _ _ (ix1 ⟨1024 * ch.val + 32 * a.val + b.val, by omega⟩) (by simp [Shape.rowMajor_val_three, Shape.rowMajor_val_one]; omega)]
  simp only [pointwise]
  rw [reduce_enum reducesTo_S2x1x4096_S4096_d0_1 x 0 _ (fun h : Fin 2 => ix3 h 0 ⟨1024 * ch.val + 32 * a.val + b.val, by omega⟩)
    (fun h h' e => congrFun e 0)
    (fun h => funext fun b => by fin_cases b; rfl)
    (fun i hi => ⟨i 0, (congrArg₂ (ix3 (i 0)) (Subsingleton.elim _ _) (congrFun hi 0).symm).trans (eq_ix3 i).symm⟩), zero_add]

/-- The mean of the batch: each entry the sum over the matrices of the batch, over their number. -/
theorem bm_val (X : S4096x4x32x32.Idx → EReal) (x : FVec Ideal S2x1x4096 .f32)
    (hx : x = fun j : S2x1x4096.Idx => ∑ u ∈ Finset.range 4, ∑ r ∈ Finset.range 512,
      row (shapeCast S4096x4096 X shapeCasts_S4096x4x32x32_S4096x4096) ((4 * (j 0).val + u) * 512 + r) (j 2)) (ch : Fin 4) (a b : Fin 32) :
    bmOf x (ix3 ch a b) = mean (∑ n ∈ Finset.range 4096, mtx X ch n a b) := by
  rw [bmOf_apply, sum_groups _ 8 512, sum_groups (fun i => ∑ j ∈ Finset.range 512, mtx X ch (i * 512 + j) a b) 2 4, Finset.sum_range]
  refine congrArg mean (Finset.sum_congr rfl fun h _ => ?_)
  rw [hx]
  refine Finset.sum_congr rfl fun u hu => Finset.sum_congr rfl fun r hr => ?_
  have hu' := Finset.mem_range.mp hu
  have hr' := Finset.mem_range.mp hr
  have hk : (4 * h.val + u) * 512 + r < 4096 := by omega
  show row _ ((4 * h.val + u) * 512 + r) _ = _
  unfold row
  rw [dif_pos hk, show (h.val * 4 + u) * 512 + r = (4 * h.val + u) * 512 + r by omega, mtx, dif_pos hk]
  refine shapeCast_apply _ _ _ _ ?_
  simp [Shape.rowMajor_val_four, Shape.rowMajor_val_two]
  omega

/-! ### One matrix per channel, eight times on the diagonal -/

/-- Two block numbers compared as words. -/
theorem eq_word (p q : Fin 8) : IntOp.cmpi .eq (BitVec.ofNat 32 p.val) (BitVec.ofNat 32 q.val) = if p = q then 1#1 else 0#1 := by
  revert p q; decide

theorem bit_one : (FloatOps.uitofp .f32 (1#1) : Ideal .f32) = 1 := by
  show ((((1#1 : BitVec 1).toNat : ℝ)) : EReal) = 1
  simp

theorem bit_zero : (FloatOps.uitofp .f32 (0#1) : Ideal .f32) = 0 := by
  show ((((0#1 : BitVec 1).toNat : ℝ)) : EReal) = 0
  simp

/-- The packed copies of a channel's matrix. -/
def packOf (x : FVec Ideal S4x32x32 .f32) : FVec Ideal S4x256x256 .f32 :=
  shapeCast S4x256x256 (mulf
    (broadcastInDim S4x8x32x8x32 ![0, 1, 2, 3, 4] bcast_S1x8x1x8x1_S4x8x32x8x32_0_1_2_3_4
      (broadcastInDim S1x8x1x8x1 ![1, 3] bcast_S8x8_S1x8x1x8x1_1_3
        (uitofp .f32 (cmpi .eq (addi (iotaInDim S8x8 32 0) (broadcastInDim S8x8 ![] bcast_S_S8x8 (constantI S_ 32 0#32))) (iotaInDim S8x8 32 1)))))
    (broadcastInDim S4x8x32x8x32 ![0, 1, 2, 3, 4] bcast_S4x1x32x1x32_S4x8x32x8x32_0_1_2_3_4
      (broadcastInDim S4x1x32x1x32 ![0, 2, 4] bcast_S4x32x32_S4x1x32x1x32_0_2_4 x))) shapeCasts_S4x8x32x8x32_S4x256x256

theorem ops2_v18 (V : Valuation τ sig (Elt Ideal)) :
    StableHlo.after hostOps2 V (Proc.devRef .tc main_v18) = packOf (V (Proc.devRef .tc main_v6_1)) := by
  after_results
  rfl

theorem ops4_v54 (V : Valuation τ sig (Elt Ideal)) :
    StableHlo.after hostOps4 V (Proc.devRef .tc main_v54) = packOf (V (Proc.devRef .tc main_v42_0)) := by
  after_results
  rfl

theorem ops4_v66 (V : Valuation τ sig (Elt Ideal)) :
    StableHlo.after hostOps4 V (Proc.devRef .tc main_v66) = packOf (V (Proc.devRef .tc main_v42_1)) := by
  after_results
  rfl

theorem packOf_apply (x : FVec Ideal S4x32x32 .f32) (ch : Fin 4) (r cc : Fin 256) :
    packOf x (ix3 ch r cc) = bd (fun _ => planes x ch.val) (ix2 r cc) := by
  unfold packOf
  rw [shapeCast_apply _ _ _ (ix5 ch ⟨r.val / 32, by omega⟩ ⟨r.val % 32, by omega⟩ ⟨cc.val / 32, by omega⟩ ⟨cc.val % 32, by omega⟩)
    (by simp [Shape.rowMajor_val_three, Shape.rowMajor_val_five]; omega)]
  simp only [pointwise, bd]
  have ha : ∀ v : BitVec 32, IntOp.addi v 0#32 = v := fun v => BitVec.add_zero v
  refine (congrArg₂ (· * ·) (congrArg (FloatOps.uitofp .f32) ((congrArg₂ (IntOp.cmpi .eq) (ha _) rfl).trans
    (eq_word ⟨r.val / 32, by omega⟩ ⟨cc.val / 32, by omega⟩))) (planes_lt x ch ⟨r.val % 32, by omega⟩ ⟨cc.val % 32, by omega⟩).symm).trans ?_
  simp only [Fin.mk.injEq]
  by_cases h : r.val / 32 = cc.val / 32
  · rw [if_pos h, bit_one, one_mul]
    exact (if_pos h).symm
  · rw [if_neg h, bit_zero, zero_mul]
    exact (if_neg h).symm

/-! ### The scale, spread over the lanes -/

theorem ops4_v68 (V : Valuation τ sig (Elt Ideal)) :
    StableHlo.after hostOps4 V (Proc.devRef .tc main_v68) = broadcastInDim S4x8x128 ![0, 1, 2] bcast_S4x1x1_S4x8x128_0_1_2
      (broadcastInDim S4x1x1 ![0] bcast_S4_S4x1x1_0 (V (Proc.devRef .tc main_v41) : FVec Ideal S4 .f32)) := by
  after_results

/-! ### The mean of the logarithms -/

/-- The mean of the logarithms from the two halves' packed sums. -/
def gtOf (x : FVec Ideal S2x4x256x256 .f32) : FVec Ideal S4x32x32 .f32 :=
  Host.divf (Host.reduceAdd (select (broadcastInDim S4x8x32x8x32 ![1, 3] bcast_S8x8_S4x8x32x8x32_1_3 (cmpi .eq (iotaInDim S8x8 32 0) (iotaInDim S8x8 32 1)))
      (shapeCast S4x8x32x8x32 (Host.reduceAdd x (constant S_ .f32 0x00000000#32) reducesTo_S2x4x256x256_S4x256x256_d0 h_S_) shapeCasts_S4x256x256_S4x8x32x8x32)
      (broadcastInDim S4x8x32x8x32 ![] bcast_S_S4x8x32x8x32 (constant S_ .f32 0x00000000#32)))
    (constant S_ .f32 0x00000000#32) reducesTo_S4x8x32x8x32_S4x32x32_d1_3 h_S_)
    (broadcastInDim S4x32x32 ![] bcast_S_S4x32x32 (constant S_ .f32 0x45800000#32))

/-- The scale of each channel from the mean of the logarithms, the sum of their squares and the given deviation. -/
def scaleOf (g : FVec Ideal S4x32x32 .f32) (y : FVec Ideal S2x4x8x256 .f32) (d : FVec Ideal S4x1 .f32) : FVec Ideal S4 .f32 :=
  Host.divf (shapeCast S4 d shapeCasts_S4x1_S4)
    (Host.sqrt (addf (subf
      (Host.divf (Host.reduceAdd y (constant S_ .f32 0x00000000#32) reducesTo_S2x4x8x256_S4_d0_2_3 h_S_)
        (broadcastInDim S4 ![] bcast_S_S4 (constant S_ .f32 0x45800000#32)))
      (Host.reduceAdd (mulf g g) (constant S_ .f32 0x00000000#32) reducesTo_S4x32x32_S4_d1_2 h_S_))
      (broadcastInDim S4 ![] bcast_S_S4 (constant S_ .f32 0x3727C5AC#32))))

theorem ops3_v30 (V : Valuation τ sig (Elt Ideal)) :
    StableHlo.after hostOps3 V (Proc.devRef .tc main_v30) = gtOf (V (Proc.devRef .tc main_v19_0)) := by
  after_results
  rfl

theorem ops3_v41 (V : Valuation τ sig (Elt Ideal)) : StableHlo.after hostOps3 V (Proc.devRef .tc main_v41)
    = scaleOf (gtOf (V (Proc.devRef .tc main_v19_0))) (V (Proc.devRef .tc main_v19_1)) (V (Proc.devRef .tc main_arg4)) := by
  after_results
  rfl

theorem gtOf_apply (x : FVec Ideal S2x4x256x256 .f32) (ch : Fin 4) (a b : Fin 32) : gtOf x (ix3 ch a b)
    = mean (∑ g : Fin 8, ∑ h : Fin 2, x (ix4 h ch ⟨32 * g.val + a.val, by omega⟩ ⟨32 * g.val + b.val, by omega⟩)) := by
  unfold gtOf mean
  simp only [pointwise]
  rw [reduce_enum reducesTo_S4x8x32x8x32_S4x32x32_d1_3 _ 0 _ (fun p : Fin 8 × Fin 8 => ix5 ch p.1 a p.2 b)
    (fun p p' e => Prod.ext (congrFun e 1) (congrFun e 3))
    (fun p => funext fun b => by fin_cases b <;> rfl)
    (fun i hi => ⟨(i 1, i 3), by
      obtain ⟨h0, h1, h2⟩ : i 0 = ch ∧ i 2 = a ∧ i 4 = b := ⟨congrFun hi 0, congrFun hi 1, congrFun hi 2⟩
      rw [← h0, ← h1, ← h2]
      exact (eq_ix5 i).symm⟩), zero_add, Fintype.sum_prod_type]
  refine congrArg (Ideal.div · _) (Finset.sum_congr rfl fun g _ => ?_)
  rw [Finset.sum_eq_single g]
  · simp only [pointwise]
    refine (congrArg (fun w => Scalar.select w _ _) ((eq_word g g).trans (if_pos rfl))).trans ?_
    refine (zero_add _).trans (Finset.sum_congr rfl fun h _ => ?_)
    simp only [Nat.mul_comm]
  · intro g' _ hg
    simp only [pointwise]
    exact congrArg (fun w => Scalar.select w _ _) ((eq_word g g').trans (if_neg fun e => hg e.symm))
  · exact fun h => absurd (Finset.mem_univ _) h

/-- The scale of one channel, from the deviation, the sum of squares and the mean. -/
def scaleFrom (d n : EReal) (g : Mat) : EReal :=
  Ideal.div d (Ideal.sqrt (mean n - ∑ a, ∑ b, g a b * g a b + Ideal.ofBits .f32 0x3727C5AC#32))

/-- A channel's part of the sums of squares, added up. -/
def nrmSum (y : FVec Ideal S2x4x8x256 .f32) (ch : Fin 4) : EReal := ∑ h : Fin 2, ∑ k : Fin 8, ∑ cc : Fin 256, y (ix4 h ch k cc)

theorem scaleOf_apply (g : FVec Ideal S4x32x32 .f32) (y : FVec Ideal S2x4x8x256 .f32) (d : FVec Ideal S4x1 .f32) (ch : Fin 4) :
    scaleOf g y d (ix1 ch) = scaleFrom (d (ix2 ch 0)) (nrmSum y ch) (planes g ch.val) := by
  unfold scaleOf scaleFrom mean nrmSum
  simp only [pointwise, planes_lt]
  rw [reduce_enum reducesTo_S2x4x8x256_S4_d0_2_3 _ 0 _ (fun p : Fin 2 × Fin 8 × Fin 256 => ix4 p.1 ch p.2.1 p.2.2)
    (fun p p' e => Prod.ext (congrFun e 0) (Prod.ext (congrFun e 2) (congrFun e 3)))
    (fun p => funext fun b => by fin_cases b; rfl)
    (fun i hi => ⟨(i 0, i 2, i 3), by
      obtain h0 : i 1 = ch := congrFun hi 0
      rw [← h0]
      exact (eq_ix4 i).symm⟩), zero_add, zero_add]
  simp only [Fintype.sum_prod_type]

/-! ### The sums of the third call, over the whole batch -/

section
variable (W : Fin 4 → Mat) (X : S4096x4x32x32.Idx → EReal)

/-- The mean of the logarithms: each entry the sum over the batch, over the number of matrices. -/
theorem gt_val (x : FVec Ideal S2x4x256x256 .f32) (hx : x = fun j : S2x4x256x256.Idx =>
    ∑ u ∈ Finset.range 64, ∑ q : Fin 4, logs W X (j 1) ((64 * (j 0).val + u) * 32 + 8 * q.val) (ix2 (j 2) (j 3))) (ch : Fin 4) (a b : Fin 32) :
    gtOf x (ix3 ch a b) = mean (∑ n ∈ Finset.range 4096, logWhite (W ch) (mtx X ch n) a b) := by
  rw [gtOf_apply, sum_batch, Finset.sum_comm]
  refine congrArg mean (Finset.sum_congr rfl fun h _ => ?_)
  rw [hx]
  show ∑ g : Fin 8, ∑ u ∈ Finset.range 64, ∑ q : Fin 4, logs W X ch ((64 * h.val + u) * 32 + 8 * q.val) (ix2 _ _) = _
  rw [Finset.sum_comm]
  refine Finset.sum_congr rfl fun u _ => ?_
  rw [Finset.sum_comm]
  refine Finset.sum_congr rfl fun q _ => Finset.sum_congr rfl fun g _ => ?_
  exact (bd_at _ g g a b).trans (if_pos rfl)

/-- The rows of a packed tensor's squares add up to all its squares. -/
theorem rows8_sum (L : Sq 256) : ∑ k : Fin 8, ∑ cc : Fin 256, rows8 L (ix2 k cc) = ∑ r : Fin 256, ∑ cc : Fin 256, L (ix2 r cc) * L (ix2 r cc) := by
  rw [sum_fin_groups 32 8 256 rfl, Finset.sum_comm (s := (Finset.univ : Finset (Fin 32)))]
  refine Finset.sum_congr rfl fun k _ => ?_
  rw [Finset.sum_comm (s := (Finset.univ : Finset (Fin 32)))]
  exact Finset.sum_congr rfl fun cc _ => rows8_apply L k cc

/-- The points and the packs summed last are summed first. -/
theorem sum_out (F : ℕ → Fin 4 → Fin 8 → Fin 256 → EReal) :
    ∑ k : Fin 8, ∑ cc : Fin 256, ∑ u ∈ Finset.range 64, ∑ q : Fin 4, F u q k cc
      = ∑ u ∈ Finset.range 64, ∑ q : Fin 4, ∑ k : Fin 8, ∑ cc : Fin 256, F u q k cc := by
  rw [← Fintype.sum_prod_type' (f := fun k cc => ∑ u ∈ Finset.range 64, ∑ q : Fin 4, F u q k cc), Finset.sum_comm]
  refine Finset.sum_congr rfl fun u _ => ?_
  rw [Finset.sum_comm]
  exact Finset.sum_congr rfl fun q _ => Fintype.sum_prod_type' (f := fun k cc => F u q k cc)

/-- The sum of the squares of the logarithms, over the batch. -/
theorem nrm_val (y : FVec Ideal S2x4x8x256 .f32) (hy : y = fun j : S2x4x8x256.Idx =>
    ∑ u ∈ Finset.range 64, ∑ q : Fin 4, rows8 (logs W X (j 1) ((64 * (j 0).val + u) * 32 + 8 * q.val)) (ix2 (j 2) (j 3))) (ch : Fin 4) :
    nrmSum y ch = ∑ n ∈ Finset.range 4096, ∑ a, ∑ b, logWhite (W ch) (mtx X ch n) a b * logWhite (W ch) (mtx X ch n) a b := by
  rw [sum_batch, hy]
  unfold nrmSum
  refine Finset.sum_congr rfl fun h _ => ?_
  refine (sum_out fun u q k cc => rows8 (logs W X ch ((64 * h.val + u) * 32 + 8 * q.val)) (ix2 k cc)).trans ?_
  exact Finset.sum_congr rfl fun u _ => Finset.sum_congr rfl fun q _ => (rows8_sum _).trans (sum_bd_sq _)

end

end Cert.Spd

end
-- ==== Proof.Ker.lean ====
/-
  What the kernel's program leaves in its result array: one matrix function of each matrix of the batch.
-/
module

public import proofs.«01_k».proof.Proof.Host
public import Idealize.ShloMosaic.Adequacy
public import Idealize.ShloMosaic.Init

@[expose] public section

noncomputable section

namespace Cert.Spd

open Idealize.ShloMosaic Idealize.ShloMosaic.TcCoe Idealize.SL Idealize.SL.Sem
open Cert.KernelIdeal Cert.KernelIdeal.Gen

/-! ### The normalisation, matrix by matrix -/

section
variable (X : S4096x4x32x32.Idx → EReal) (M : S4x32x32.Idx → EReal) (S : S4x1.Idx → EReal) (ch : Fin 4)

/-- The mean of the batch. -/
def batchMean : Mat := fun a b => mean (∑ n ∈ Finset.range 4096, mtx X ch n a b)

/-- Its inverse square root. -/
def whiten : Mat := matOps.invRootFrom (matOps.mul matOps.one) (batchMean X ch)

/-- The logarithm of the whitened matrix `n`. -/
def tangent (n : ℕ) : Mat := logWhite (whiten X ch) (mtx X ch n)

/-- The mean of the logarithms. -/
def tangentMean : Mat := fun a b => mean (∑ n ∈ Finset.range 4096, tangent X ch n a b)

/-- The scale: the given deviation over the root of the variance. -/
def scale : EReal := scaleFrom (S (ix2 ch 0))
  (∑ n ∈ Finset.range 4096, ∑ a, ∑ b, tangent X ch n a b * tangent X ch n a b) (tangentMean X ch)

/-- The mean moved along the mean logarithm. -/
def movedMean : Mat :=
  matOps.mul (matOps.mul (matOps.rootOf (batchMean X ch)) (matOps.expm (tangentMean X ch))) (matOps.rootOf (batchMean X ch))

/-- The inverse square root of the moved mean. -/
def whitenMoved : Mat := matOps.invRootFrom (matOps.mul matOps.one) (movedMean X ch)

/-- The normalised matrix `n`. -/
def normed (n : ℕ) : Mat := matOps.powOf (scale X S ch) (matOps.rootOf (planes M ch.val))
  (matOps.mul (matOps.mul (whitenMoved X ch) (mtx X ch n)) (whitenMoved X ch))

end

/-- The planes of an array given plane by plane. -/
theorem planes_of (G : Fin 4 → Mat) (x : S4x32x32.Idx → EReal) (h : ∀ ch a b, x (ix3 ch a b) = G ch a b) (ch : Fin 4) :
    planes x ch.val = G ch := funext fun a => funext fun b => (planes_lt x ch a b).trans (h ch a b)

section
variable (m : (ℓ : Loc nD τ sig) → Buf (Elt Ideal) ℓ) (ρ : Dev nD → PrngReg) (c : Dev nD)
  (X : S4096x4x32x32.Idx → EReal) (M : S4x32x32.Idx → EReal) (S : S4x1.Idx → EReal)
  (hX : m ((c : Thread nD τ).loc main_arg0) = X) (hM : m ((c : Thread nD τ).loc main_arg3) = M) (hS : m ((c : Thread nD τ).loc main_arg4) = S)

include hX

theorem at_v5 (ch : Fin 4) (a b : Fin 32) : (V3 m ρ c main_v5 : S4x32x32.Idx → EReal) (ix3 ch a b) = batchMean X ch a b := by
  have h1 : V1 m ρ c main_v0 = shapeCast S4096x4096 X shapeCasts_S4096x4x32x32_S4096x4096 := by
    rw [← hX]
    show StableHlo.after hostOps0 (W0 m ρ c) (Proc.devRef .tc main_v0) = _
    after_results
    rfl
  refine (congrFun (ops1_v5 (W2 m ρ c)) _).trans (bm_val X _ ?_ ch a b)
  exact (W2_arr m ρ c 1).trans (final0 (V1 m ρ) c _ h1)

theorem at_v6_1 (ch : Fin 4) (a b : Fin 32) : (W4 m ρ c (Proc.devRef .tc main_v6_1) : S4x32x32.Idx → EReal) (ix3 ch a b) = whiten X ch a b := by
  refine (congrFun ((W4_arr m ρ c 2).trans (final1_iroot (V3 m ρ) c _ rfl)) (ix3 ch a b)).trans ?_
  show matOps.invRootFrom (matOps.mul matOps.one) (planes (V3 m ρ c main_v5) ch.val) a b = _
  rw [planes_of (batchMean X) _ (at_v5 m ρ c X hX) ch]
  rfl

theorem at_v6_0 (ch : Fin 4) (a b : Fin 32) :
    (W4 m ρ c (Proc.devRef .tc main_v6_0) : S4x32x32.Idx → EReal) (ix3 ch a b) = matOps.rootOf (batchMean X ch) a b := by
  refine (congrFun ((W4_arr m ρ c 1).trans (final1_root (V3 m ρ) c _ rfl)) (ix3 ch a b)).trans ?_
  show matOps.rootOf (planes (V3 m ρ c main_v5) ch.val) a b = _
  rw [planes_of (batchMean X) _ (at_v5 m ρ c X hX) ch]

theorem at_v18 (ch : Fin 4) (r cc : Fin 256) :
    packOf (W4 m ρ c (Proc.devRef .tc main_v6_1)) (ix3 ch r cc) = bd (fun _ => whiten X ch) (ix2 r cc) := by
  rw [packOf_apply, planes_of (whiten X) _ (at_v6_1 m ρ c X hX) ch]

theorem at_arg0_5 : V5 m ρ c main_arg0 = X := (W5_args m ρ c main_arg0 (by decide)).trans hX

theorem at_v30 (ch : Fin 4) (a b : Fin 32) : gtOf (W6 m ρ c (Proc.devRef .tc main_v19_0)) (ix3 ch a b) = tangentMean X ch a b :=
  gt_val (whiten X) X _ ((W6_arr m ρ c 2).trans (final2_xt (V5 m ρ) c (whiten X) X _ (at_arg0_5 m ρ c X hX)
    (ops2_v18 (W4 m ρ c)) (at_v18 m ρ c X hX))) ch a b

theorem at_nrm (ch : Fin 4) : nrmSum (W6 m ρ c (Proc.devRef .tc main_v19_1)) ch
    = ∑ n ∈ Finset.range 4096, ∑ a, ∑ b, tangent X ch n a b * tangent X ch n a b :=
  nrm_val (whiten X) X _ ((W6_arr m ρ c 3).trans (final2_nrm (V5 m ρ) c (whiten X) X _ (at_arg0_5 m ρ c X hX)
    (ops2_v18 (W4 m ρ c)) (at_v18 m ρ c X hX))) ch

theorem at_v6_0_7 : V7 m ρ c main_v6_0 = W4 m ρ c (Proc.devRef .tc main_v6_0) :=
  (W7_of m ρ c main_v6_0 (by decide)).trans ((W6_of_ne m ρ c main_v6_0 (by decide)).trans (W5_of m ρ c main_v6_0 (by decide)))

theorem at_v42_0 (ch : Fin 4) (a b : Fin 32) :
    (W8 m ρ c (Proc.devRef .tc main_v42_0) : S4x32x32.Idx → EReal) (ix3 ch a b) = whitenMoved X ch a b := by
  refine (congrFun ((W8_arr m ρ c 3).trans (final3_iroot (V7 m ρ) c _ _ (ops3_v30 (W6 m ρ c)) (at_v6_0_7 m ρ c X hX))) (ix3 ch a b)).trans ?_
  show matOps.invRootFrom (matOps.mul matOps.one) (matOps.mul (matOps.mul
    (planes (W4 m ρ c (Proc.devRef .tc main_v6_0)) ch.val) (matOps.expm (planes (gtOf (W6 m ρ c (Proc.devRef .tc main_v19_0))) ch.val)))
    (planes (W4 m ρ c (Proc.devRef .tc main_v6_0)) ch.val)) a b = _
  rw [planes_of _ _ (at_v6_0 m ρ c X hX) ch, planes_of _ _ (at_v30 m ρ c X hX) ch]
  rfl

omit hX
include hM in
theorem at_v42_1 (ch : Fin 4) (a b : Fin 32) :
    (W8 m ρ c (Proc.devRef .tc main_v42_1) : S4x32x32.Idx → EReal) (ix3 ch a b) = matOps.rootOf (planes M ch.val) a b :=
  congrFun ((W8_arr m ρ c 4).trans (final3_root (V7 m ρ) c M ((W7_args m ρ c main_arg3 (by decide)).trans hM))) (ix3 ch a b)

include hX hS in
theorem at_v41 (ch : Fin 4) : (W8 m ρ c (Proc.devRef .tc main_v41) : S4.Idx → EReal) (ix1 ch) = scale X S ch := by
  have e : W8 m ρ c (Proc.devRef .tc main_v41) = scaleOf (gtOf (W6 m ρ c (Proc.devRef .tc main_v19_0))) (W6 m ρ c (Proc.devRef .tc main_v19_1)) S := by
    rw [W8_of_ne m ρ c main_v41 (by decide), ← hS, ← W6_args m ρ c main_arg4 (by decide)]
    exact ops3_v41 (W6 m ρ c)
  rw [e, scaleOf_apply, at_nrm m ρ c X hX, planes_of _ _ (at_v30 m ρ c X hX) ch]
  rfl

include hX hM hS in
/-- The result array: at `(n, ch)` the normalised matrix `n` of channel `ch`. -/
theorem at_v69 : W10 m ρ c (Proc.devRef .tc main_v69) = fun j : S4096x4x32x32.Idx => normed X M S (j 1) (j 0).val (j 2) (j 3) := by
  refine (W10_arr m ρ c 4).trans ((final4 (V9 m ρ) c (whitenMoved X) (fun ch => matOps.rootOf (planes M ch.val)) X _
    ((W9_args m ρ c main_arg0 (by decide)).trans hX) (ops4_v68 (W8 m ρ c)) _ _ (ops4_v54 (W8 m ρ c)) (ops4_v66 (W8 m ρ c)) ?_ ?_).trans ?_)
  · intro ch r cc
    rw [packOf_apply, planes_of _ _ (at_v42_0 m ρ c X hX) ch]
  · intro ch r cc
    rw [packOf_apply, planes_of _ _ (at_v42_1 m ρ c M hM) ch]
  · funext j
    have e : broadcastInDim S4x8x128 ![0, 1, 2] bcast_S4x1x1_S4x8x128_0_1_2
        (broadcastInDim S4x1x1 ![0] bcast_S4_S4x1x1_0 (W8 m ρ c (Proc.devRef .tc main_v41) : FVec Ideal S4 .f32)) (ix3 (j 1) 0 0) = scale X S (j 1) := by
      simp only [pointwise]
      exact at_v41 m ρ c X S hX hS (j 1)
    show matOps.powOf _ _ _ _ _ = _
    rw [e]
    rfl

end

end Cert.Spd

end
-- ==== Proof.RefOps.lean ====
/-
  The reference's matrix functions: its host operations on one matrix per channel and on one matrix per batch entry and
  channel are the operations of single matrices, read at an index.
-/
module

public import proofs.«01_k».proof.Proof.MatFun
public import proofs.«01_k».proof.Proof.Gen.ReferenceIdeal.Read
public import Idealize.ShloMosaic.Lib.Pointwise

@[expose] public section

noncomputable section

namespace Cert.Spd

open Idealize.ShloMosaic
open Cert.ReferenceIdeal Cert.ReferenceIdeal.Gen Cert.ReferenceIdeal.Read

/-- The identity matrix as the reference builds it. -/
abbrev eye : FVec Ideal S32x32 .f32 := val_main_v5 (F := Ideal)

/-- A number as a tensor of no axes. -/
abbrev num (c : EReal) : FVec Ideal S_ .f32 := fun _ => c

/-- The operations on one matrix per channel. -/
def chanOps : Ops (FVec Ideal S4x32x32 .f32) (FVec Ideal S4x1x1 .f32) (FVec Ideal S4x1x1 .f32) where
  mul x y := Host.dotGeneral dot_S4x32x32_S4x32x32_S4x32x32_2_1_1_2_0_0 none x y
  add x y := addf x y
  sub x y := subf x y
  one := broadcastInDim S4x32x32 ![0, 1, 2] bcast_S1x32x32_S4x32x32_0_1_2 (broadcastInDim S1x32x32 ![1, 2] bcast_S32x32_S1x32x32_1_2 eye)
  so c := broadcastInDim S4x32x32 ![0, 1, 2] bcast_S1x32x32_S4x32x32_0_1_2 (broadcastInDim S1x32x32 ![1, 2] bcast_S32x32_S1x32x32_1_2
    (mulf (broadcastInDim S32x32 ![] bcast_S_S32x32 (num c)) eye))
  sm c x := mulf (broadcastInDim S4x32x32 ![] bcast_S_S4x32x32 (num c)) x
  ms x c := mulf x (broadcastInDim S4x32x32 ![] bcast_S_S4x32x32 (num c))
  mb x b := mulf x (broadcastInDim S4x32x32 ![0, 1, 2] bcast_S4x1x1_S4x32x32_0_1_2 b)
  da d x := mulf (broadcastInDim S4x32x32 ![0, 1, 2] bcast_S4x1x1_S4x32x32_0_1_2 d) x
  db d b := mulf d b
  nrm x := Host.sqrt (broadcastInDim S4x1x1 ![0] bcast_S4_S4x1x1_0
    (Host.reduceAdd (mulf x x) (constant S_ .f32 0x00000000#32) reducesTo_S4x32x32_S4_d1_2 h_S_))
  mtr x := fun j => (∑ i, x (ix3 (j 0) i i)) * lit 0x3D000000#32
  badd a b := addf a b
  inv b := Host.divf (broadcastInDim S4x1x1 ![] bcast_S_S4x1x1 (constant S_ .f32 0x3F800000#32)) b
  bsqrt b := Host.sqrt b
  blog b := Host.log b
  bexp b := Host.exp b

/-- The operations on one matrix per batch entry and channel. -/
def batchOps : Ops (FVec Ideal S4096x4x32x32 .f32) (FVec Ideal S4096x4x1x1 .f32) (FVec Ideal S4x1x1 .f32) where
  mul x y := Host.dotGeneral dot_S4096x4x32x32_S4096x4x32x32_S4096x4x32x32_3_2_2_3_01_01 none x y
  add x y := addf x y
  sub x y := subf x y
  one := broadcastInDim S4096x4x32x32 ![0, 1, 2, 3] bcast_S1x1x32x32_S4096x4x32x32_0_1_2_3 (broadcastInDim S1x1x32x32 ![2, 3] bcast_S32x32_S1x1x32x32_2_3 eye)
  so c := broadcastInDim S4096x4x32x32 ![0, 1, 2, 3] bcast_S1x1x32x32_S4096x4x32x32_0_1_2_3 (broadcastInDim S1x1x32x32 ![2, 3] bcast_S32x32_S1x1x32x32_2_3
    (mulf (broadcastInDim S32x32 ![] bcast_S_S32x32 (num c)) eye))
  sm c x := mulf (broadcastInDim S4096x4x32x32 ![] bcast_S_S4096x4x32x32 (num c)) x
  ms x c := mulf x (broadcastInDim S4096x4x32x32 ![] bcast_S_S4096x4x32x32 (num c))
  mb x b := mulf x (broadcastInDim S4096x4x32x32 ![0, 1, 2, 3] bcast_S4096x4x1x1_S4096x4x32x32_0_1_2_3 b)
  da d x := mulf (broadcastInDim S4096x4x32x32 ![0, 1, 2, 3] bcast_S1x4x1x1_S4096x4x32x32_0_1_2_3 (broadcastInDim S1x4x1x1 ![1, 2, 3] bcast_S4x1x1_S1x4x1x1_1_2_3 d)) x
  db d b := mulf (broadcastInDim S4096x4x1x1 ![0, 1, 2, 3] bcast_S1x4x1x1_S4096x4x1x1_0_1_2_3 (broadcastInDim S1x4x1x1 ![1, 2, 3] bcast_S4x1x1_S1x4x1x1_1_2_3 d)) b
  nrm x := Host.sqrt (broadcastInDim S4096x4x1x1 ![0, 1] bcast_S4096x4_S4096x4x1x1_0_1
    (Host.reduceAdd (mulf x x) (constant S_ .f32 0x00000000#32) reducesTo_S4096x4x32x32_S4096x4_d2_3 h_S_))
  mtr x := fun j => (∑ i, x (ix4 (j 0) (j 1) i i)) * lit 0x3D000000#32
  badd a b := addf a b
  inv b := Host.divf (broadcastInDim S4096x4x1x1 ![] bcast_S_S4096x4x1x1 (constant S_ .f32 0x3F800000#32)) b
  bsqrt b := Host.sqrt b
  blog b := Host.log b
  bexp b := Host.exp b

/-- `W X W` for every matrix of the batch, `W` one matrix per channel, as the reference computes it. -/
def sandwich (W : FVec Ideal S4x32x32 .f32) (X : FVec Ideal S4096x4x32x32 .f32) : FVec Ideal S4096x4x32x32 .f32 :=
  transpose S4096x4x32x32 [1, 0, 2, 3] (Host.dotGeneral dot_S4096x4x32x32_S4x32x32_S4x4096x32x32_3_1_02_2_1_0 none
    (transpose S4096x4x32x32 [2, 0, 1, 3] (Host.dotGeneral dot_S4x32x32_S4096x4x32x32_S4x32x4096x32_2_2_1_03_0_1 none W X)
      transposes_S4x32x4096x32_S4096x4x32x32_2_0_1_3) W) transposes_S4x4096x32x32_S4096x4x32x32_1_0_2_3

/-! ### Each operation, read at an index -/

theorem eye_at (i j : Fin 32) : eye (ix2 i j) = if i = j then 1 else 0 := by
  have e : ∀ i j : Fin 32, IntOp.cmpi .eq (IntOp.addi (BitVec.ofNat 32 i.val) 0#32) (BitVec.ofNat 32 j.val) = if i = j then 1#1 else 0#1 := by decide
  show FloatOps.uitofp .f32 (IntOp.cmpi .eq (IntOp.addi (BitVec.ofNat 32 i.val) 0#32) (BitVec.ofNat 32 j.val)) = _
  rw [e]
  split
  · show (((1#1 : BitVec 1).toNat : ℝ) : EReal) = 1
    simp
  · show (((0#1 : BitVec 1).toNat : ℝ) : EReal) = 0
    simp

/-- One channel's matrix. -/
theorem chan_hom (ch : Fin 4) : Hom chanOps matOps (fun x i j => x (ix3 ch i j)) (fun b => b (ix3 ch 0 0)) (fun d => d (ix3 ch 0 0)) := by
  constructor <;> intros <;> (try funext i j) <;> simp only [chanOps, matOps, pointwise, eye_at]
  case one => exact (eye_at i j).symm
  case so => exact congrArg (_ * ·) (eye_at i j).symm
  all_goals first | rfl | (simp only [zero_add]; done) | (simp only [zero_add]; rfl)

/-- One matrix of the batch. -/
theorem batch_hom (n : Fin 4096) (ch : Fin 4) :
    Hom batchOps matOps (fun x i j => x (ix4 n ch i j)) (fun b => b (ix4 n ch 0 0)) (fun d => d (ix3 ch 0 0)) := by
  constructor <;> intros <;> (try funext i j) <;> simp only [batchOps, matOps, pointwise, eye_at]
  case one => exact (eye_at i j).symm
  case so => exact congrArg (_ * ·) (eye_at i j).symm
  all_goals first | rfl | (simp only [zero_add]; done) | (simp only [zero_add]; rfl)

theorem sandwich_at (W : FVec Ideal S4x32x32 .f32) (X : FVec Ideal S4096x4x32x32 .f32) (n : Fin 4096) (ch : Fin 4) (i j : Fin 32) :
    sandwich W X (ix4 n ch i j) = matOps.mul (matOps.mul (fun a b => W (ix3 ch a b)) (fun a b => X (ix4 n ch a b))) (fun a b => W (ix3 ch a b)) i j := by
  unfold sandwich
  simp only [matOps, pointwise, zero_add]

/-! ### The reference's stages -/

section
variable (x0 : FVec Ideal S4096x4x32x32 .f32) (x3 : FVec Ideal S4x32x32 .f32) (x4 : FVec Ideal S4x1 .f32)

theorem v96_eq : val_main_v96 (F := Ideal) x0 = chanOps.rootOf (val_main_v8 (F := Ideal) x0) := rfl
theorem v102_eq : val_main_v102 (F := Ideal) x0 = chanOps.invRootFrom id (val_main_v8 (F := Ideal) x0) := rfl
theorem v106_eq : val_main_v106 (F := Ideal) x0 = sandwich (val_main_v102 (F := Ideal) x0) x0 := rfl
theorem v289_eq : val_main_v289 (F := Ideal) x0 = batchOps.logOf (val_main_v106 (F := Ideal) x0) := rfl
theorem v321_eq : val_main_v321 (F := Ideal) x0 = chanOps.mul (chanOps.mul (val_main_v96 (F := Ideal) x0)
  (chanOps.expm (val_main_v292 (F := Ideal) x0))) (val_main_v96 (F := Ideal) x0) := rfl
theorem v429_eq : val_main_v429 (F := Ideal) x0 = chanOps.invRootFrom id (val_main_v321 (F := Ideal) x0) := rfl
theorem v517_eq : val_main_v517 (F := Ideal) x3 = chanOps.rootOf x3 := rfl
theorem v527_eq : val_main_v527 (F := Ideal) x0 = sandwich (val_main_v429 (F := Ideal) x0) x0 := rfl
theorem v704_eq : val_main_v704 (F := Ideal) x0 = batchOps.logm (val_main_v527 (F := Ideal) x0) := rfl
theorem v531_eq : val_main_v531 (F := Ideal) x0 = batchOps.nrm (val_main_v527 (F := Ideal) x0) := rfl

/-- The exponential and the factor after it, from the mean of the diagonal. -/
theorem v744_eq : val_main_v744 (F := Ideal) x0 x4 = batchOps.expm (batchOps.da (val_main_v335 (F := Ideal) x0 x4)
  (batchOps.sub (val_main_v704 (F := Ideal) x0) (batchOps.mb batchOps.one (val_main_v709 (F := Ideal) x0)))) := rfl
theorem v755_eq : val_main_v755 (F := Ideal) x0 x3 x4 = batchOps.mb (sandwich (val_main_v517 (F := Ideal) x3) (val_main_v744 (F := Ideal) x0 x4))
  (batchOps.bexp (batchOps.db (val_main_v335 (F := Ideal) x0 x4) (batchOps.badd (val_main_v709 (F := Ideal) x0) (batchOps.blog (val_main_v531 (F := Ideal) x0))))) := rfl

/-- The mean of a logarithm's diagonal. -/
theorem v709_eq : val_main_v709 (F := Ideal) x0 = batchOps.mtr (val_main_v704 (F := Ideal) x0) := by
  funext j
  rw [eq_ix4 j]
  show val_main_v709 (F := Ideal) x0 _ = (∑ i, val_main_v704 (F := Ideal) x0 (ix4 (j 0) (j 1) i i)) * lit 0x3D000000#32
  unfold val_main_v709 val_main_v708 val_main_v707 val_main_v706 val_main_call0_v6 val_main_call0_call0_v0 val_main_call0_v5
  generalize val_main_v704 (F := Ideal) x0 = L
  simp only [pointwise]
  have e : ∀ i j : Fin 32, val_main_call0_v4 (F := Ideal) (ix2 i j) = if i = j then 1#1 else 0#1 := by
    show ∀ i j : Fin 32, IntOp.cmpi .eq (IntOp.addi (BitVec.ofNat 32 i.val) 0#32) (BitVec.ofNat 32 j.val) = _
    decide
  refine congrArg (· * lit 0x3D000000#32) (Eq.trans (congrArg₂ (· + ·) (Ideal.ofBits_zero .f32) (Finset.sum_congr rfl fun i _ => ?_)) (zero_add _))
  refine (Finset.sum_eq_single i (fun k _ hk => ?_) fun h => absurd (Finset.mem_univ _) h).trans ?_
  · exact (congrArg (fun w => Scalar.select w _ _) ((e i k).trans (if_neg fun h => hk h.symm))).trans (Ideal.ofBits_zero .f32)
  · exact congrArg (fun w => Scalar.select w _ _) ((e i i).trans (if_pos rfl))

end

end Cert.Spd

end
-- ==== Proof.RefVal.lean ====
/-
  What the reference leaves in its result array: the same matrix function of each matrix of the batch as the kernel.
-/
module

public import proofs.«01_k».proof.Proof.Ker
public import proofs.«01_k».proof.Proof.RefOps

@[expose] public section

noncomputable section

namespace Cert.Spd

open Idealize.ShloMosaic
open Cert.ReferenceIdeal Cert.ReferenceIdeal.Gen Cert.ReferenceIdeal.Read

/-- The identity is neutral, also at infinite entries. -/
theorem one_mul_mat (x : Mat) : matOps.mul matOps.one x = x := by
  funext i j
  show ∑ k, (if i = k then 1 else 0) * x k j = x i j
  rw [Finset.sum_eq_single i (fun k _ hk => by rw [if_neg fun h => hk h.symm, zero_mul]) fun h => absurd (Finset.mem_univ _) h,
    if_pos rfl, one_mul]

theorem invRoot_start (A : Mat) : matOps.invRootFrom (matOps.mul matOps.one) A = matOps.invRootFrom id A :=
  congrArg (fun R => matOps.invRootFrom R A) (funext one_mul_mat)

section
variable (X : FVec Ideal S4096x4x32x32 .f32) (M : FVec Ideal S4x32x32 .f32) (S : FVec Ideal S4x1 .f32)

/-- A channel's matrix, and a matrix of the batch. -/
abbrev chan (x : FVec Ideal S4x32x32 .f32) (ch : Fin 4) : Mat := fun i j => x (ix3 ch i j)
abbrev entry (x : FVec Ideal S4096x4x32x32 .f32) (n : Fin 4096) (ch : Fin 4) : Mat := fun i j => x (ix4 n ch i j)

theorem entry_mtx (n : Fin 4096) (ch : Fin 4) : entry X n ch = mtx X ch n.val :=
  funext fun a => funext fun b => (mtx_lt X ch n a b).symm

/-- A host mean over the batch. -/
theorem mean_at (L : FVec Ideal S4096x4x32x32 .f32) (G : Fin 4 → ℕ → Mat) (h : ∀ (n : Fin 4096) ch, entry L n ch = G ch n.val) (ch : Fin 4) :
    chan (Host.divf (Host.reduceAdd L (constant S_ .f32 0x00000000#32) reducesTo_S4096x4x32x32_S4x32x32_d0 h_S_)
      (broadcastInDim S4x32x32 ![] bcast_S_S4x32x32 (constant S_ .f32 0x45800000#32))) ch
      = fun a b => mean (∑ n ∈ Finset.range 4096, G ch n a b) := by
  funext a b
  unfold mean
  simp only [chan, pointwise, Finset.sum_range, zero_add]
  exact congrArg (Ideal.div · _) (Finset.sum_congr rfl fun n _ => congrFun (congrFun (h n ch) a) b)

theorem v8_at (ch : Fin 4) : chan (val_main_v8 (F := Ideal) X) ch = batchMean X ch :=
  mean_at X (mtx X) (entry_mtx X) ch

theorem v96_at (ch : Fin 4) : chan (val_main_v96 (F := Ideal) X) ch = matOps.rootOf (batchMean X ch) := by
  rw [v96_eq, ← v8_at]
  exact ((chan_hom ch).rootOf _).symm

theorem v102_at (ch : Fin 4) : chan (val_main_v102 (F := Ideal) X) ch = whiten X ch := by
  rw [v102_eq, whiten, invRoot_start, ← v8_at]
  exact ((chan_hom ch).invRootFrom (fun _ => rfl) _).symm

theorem v289_at (n : Fin 4096) (ch : Fin 4) : entry (val_main_v289 (F := Ideal) X) n ch = tangent X ch n.val := by
  rw [v289_eq, tangent, logWhite, ← entry_mtx, ← v102_at]
  refine ((batch_hom n ch).logOf _).symm.trans (congrArg matOps.logOf ?_)
  funext i j
  rw [v106_eq]
  exact sandwich_at _ _ n ch i j

theorem v292_at (ch : Fin 4) : chan (val_main_v292 (F := Ideal) X) ch = tangentMean X ch :=
  mean_at (val_main_v289 (F := Ideal) X) (tangent X) (v289_at X) ch

theorem v321_at (ch : Fin 4) : chan (val_main_v321 (F := Ideal) X) ch = movedMean X ch := by
  rw [v321_eq, movedMean, ← v96_at, ← v292_at, (chan_hom ch).expm, (chan_hom ch).mul, (chan_hom ch).mul]

theorem v429_at (ch : Fin 4) : chan (val_main_v429 (F := Ideal) X) ch = whitenMoved X ch := by
  rw [v429_eq, whitenMoved, invRoot_start, ← v321_at]
  exact ((chan_hom ch).invRootFrom (fun _ => rfl) _).symm

theorem v517_at (ch : Fin 4) : chan (val_main_v517 (F := Ideal) M) ch = matOps.rootOf (planes M ch.val) := by
  rw [v517_eq, planes_of (chan M) M (fun _ _ _ => rfl)]
  exact ((chan_hom ch).rootOf _).symm

theorem v527_at (n : Fin 4096) (ch : Fin 4) : entry (val_main_v527 (F := Ideal) X) n ch
    = matOps.mul (matOps.mul (whitenMoved X ch) (mtx X ch n.val)) (whitenMoved X ch) := by
  rw [v527_eq, ← entry_mtx, ← v429_at]
  exact funext fun i => funext fun j => sandwich_at _ _ n ch i j

/-- The scale. -/
theorem v335_at (ch : Fin 4) : val_main_v335 (F := Ideal) X S (ix3 ch 0 0) = scale X S ch := by
  unfold val_main_v335 val_main_v334 val_main_v333 val_main_v332 val_main_v331 val_main_v330 val_main_v329 val_main_v328 val_main_v327
    val_main_v326 val_main_v325 val_main_v324 val_main_v323 val_main_v322 val_main_cst_64 val_main_cst_65 val_main_cst_66 val_main_cst_67 val_main_cst_68
  have h1 : ∀ (n : Fin 4096) a b, val_main_v289 (F := Ideal) X (ix4 n ch a b) = tangent X ch n.val a b := fun n a b =>
    congrFun (congrFun (v289_at X n ch) a) b
  have h2 : ∀ a b, val_main_v292 (F := Ideal) X (ix3 ch a b) = tangentMean X ch a b := fun a b => congrFun (congrFun (v292_at X ch) a) b
  unfold scale scaleFrom mean
  simp only [pointwise, Finset.sum_range, zero_add]
  simp only [← h1, ← h2]
  rfl

/-- The result: at `(n, ch)` the normalised matrix `n` of channel `ch`. -/
theorem v755_at (n : Fin 4096) (ch : Fin 4) : entry (val_main_v755 (F := Ideal) X M S) n ch = normed X M S ch n.val := by
  have e : entry (sandwich (val_main_v517 (F := Ideal) M) (val_main_v744 (F := Ideal) X S)) n ch
      = matOps.mul (matOps.mul (matOps.rootOf (planes M ch.val)) (entry (val_main_v744 (F := Ideal) X S) n ch)) (matOps.rootOf (planes M ch.val)) := by
    rw [← v517_at]
    exact funext fun i => funext fun j => sandwich_at _ _ n ch i j
  have h := batch_hom n ch
  rw [normed, ← v527_at, ← v335_at, v755_eq, v709_eq]
  refine (h.mb _ _).symm.trans ?_
  refine (congrArg (matOps.mb · _) e).trans ?_
  rw [v744_eq, v709_eq, v704_eq, v531_eq]
  unfold Ops.powOf Ops.powFrom
  dsimp only [entry]
  rw [h.logm, h.nrm, h.mtr, h.blog, h.badd, h.db, h.bexp, h.one, h.mb, h.sub, h.da, h.expm]

end

end Cert.Spd

end
-- ==== Proof.lean ====
/- The claims about the batch-normalisation kernel and its reference, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KerRun
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- The reference runs, leaves its arguments unchanged and every counter at zero. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From arguments that agree, the kernel and the reference both run and end with equal results: each matrix of each
    result array is `Cert.Spd.normed` of the same arguments. -/
theorem algebraic : Cert.algebraic_KernelIdeal_ReferenceIdeal := by
  intro m ρ m' ρ' _ hagree
  refine ⟨fun c => Cert.KernelIdeal.Gen.W10 m ρ c (Proc.devRef .tc Cert.KernelIdeal.main_v69),
    Cert.Spd.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, -, -, h3, h4⟩ := hagree c
  refine (Cert.ReferenceIdeal.Read.val_main_v755_eq (F := Ideal) (StableHlo.launchContents m' c)).trans ?_
  refine Eq.trans ?_ (Cert.Spd.at_v69 m ρ c _ _ _ h0.symm h3.symm h4.symm).symm
  funext j
  refine (congrArg _ (eq_ix4 j)).trans ?_
  exact congrFun (congrFun (Cert.Spd.v755_at _ _ _ (j 0) (j 1)) (j 2)) (j 3)

/-- The claims, each by its own proof. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, algebraic⟩

end Cert.Proof

end
